-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_real [hPre_inputs_real : Cert.Pre_inputs_real.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_inputs_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_inputs_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_inputs_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_inputs_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_inputs_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_inputs_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_inputs_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_real [hPre_inputs_real : Cert.Pre_inputs_real.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_inputs_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_inputs_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_inputs_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_inputs_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_inputs_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_inputs_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_inputs_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_inputs_real [hKernelIdeal : Cert.KernelIdeal.Facts] [hPre_inputs_real : Cert.Pre_inputs_real.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_real m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_inputs_real [hReferenceIdeal : Cert.ReferenceIdeal.Facts] [hPre_inputs_real : Cert.Pre_inputs_real.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_real m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_inputs_real [hKernelIdeal : Cert.KernelIdeal.Facts] [hReferenceIdeal : Cert.ReferenceIdeal.Facts] [hPre_inputs_real : Cert.Pre_inputs_real.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_real m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_inputs_real : Cert.Pre_inputs_real.Facts),
    quiescent_Kernel (hKernel := hKernel)
    ∧ quiescent_KernelIdeal (hKernelIdeal := hKernelIdeal)
    ∧ quiescent_KernelIdeal_pre_inputs_real (hKernelIdeal := hKernelIdeal) (hPre_inputs_real := hPre_inputs_real)
    ∧ quiescent_ReferenceIdeal (hReferenceIdeal := hReferenceIdeal)
    ∧ quiescent_ReferenceIdeal_pre_inputs_real (hReferenceIdeal := hReferenceIdeal) (hPre_inputs_real := hPre_inputs_real)
    ∧ preserves_Kernel_KernelIdeal
    ∧ algebraic_KernelIdeal_ReferenceIdeal_pre_inputs_real (hKernelIdeal := hKernelIdeal) (hReferenceIdeal := hReferenceIdeal) (hPre_inputs_real := hPre_inputs_real)
-- ==== Pre_inputs_real.lean ====
abbrev S768x256 : Shape := ⟨2, ![768, 256]⟩
abbrev S768x768 : Shape := ⟨2, ![768, 768]⟩
abbrev S256x256 : Shape := ⟨2, ![256, 256]⟩
abbrev S256 : Shape := ⟨1, ![256]⟩
abbrev S768 : Shape := ⟨1, ![768]⟩
abbrev S768x1 : Shape := ⟨2, ![768, 1]⟩
abbrev S1x768 : Shape := ⟨2, ![1, 768]⟩
abbrev S_ : Shape := ⟨0, ![]⟩

class Facts : Prop where
  bcast_S768_S768x1_0 : S768.BroadcastsInDim S768x1 (![0] : Fin 1 → Fin S768x1.rank)
  bcast_S768_S1x768_1 : S768.BroadcastsInDim S1x768 (![1] : Fin 1 → Fin S1x768.rank)
  bcast_S768x1_S768x768_0_1 : S768x1.BroadcastsInDim S768x768 (![0, 1] : Fin 2 → Fin S768x768.rank)
  bcast_S1x768_S768x768_0_1 : S1x768.BroadcastsInDim S768x768 (![0, 1] : Fin 2 → Fin S768x768.rank)
  bcast_S_S768x768 : S_.BroadcastsInDim S768x768 (![] : Fin 0 → Fin S768x768.rank)
  reducesTo_S768x768_S768_d0 : S768x768.ReducesTo [0] S768
  h_S_ : 0 < S_.numel
  bcast_S_S768 : S_.BroadcastsInDim S768 (![] : Fin 0 → Fin S768.rank)
  bcast_S_S768x256 : S_.BroadcastsInDim S768x256 (![] : Fin 0 → Fin S768x256.rank)
  bcast_S_S256x256 : S_.BroadcastsInDim S256x256 (![] : Fin 0 → Fin S256x256.rank)
  bcast_S_S256 : S_.BroadcastsInDim S256 (![] : Fin 0 → Fin S256.rank)

variable [Facts]

def fn_where {F : FTy → Type} [FloatOps F] (arg0 : IVec S768x768 1) (arg1 : FVec F S768x768 .f32) (arg2 : FVec F S_ .f32) : FVec F S768x768 .f32 :=
  let v0 : FVec F S_ .f32 := id arg2
  let v1 : FVec F S768x768 .f32 := broadcastInDim S768x768 ![] bcast_S_S768x768 v0
  let v2 : FVec F S768x768 .f32 := select arg0 arg1 v1
  v2

def fn_part1 {F : FTy → Type} [FloatOps F] (main_arg4 : FVec F S256x256 .f32) (main_arg5 : FVec F S256 .f32) (main_arg6 : FVec F S256x256 .f32) (main_arg7 : FVec F S256 .f32) (main_v10 : FVec F S768 .f32) (main_v13 : IVec S768x256 1) (main_v16 : IVec S256x256 1) (main_v17 : FVec F S256 .f32) (main_cst_4 : FVec F S_ .f32) : IVec S768 1 × IVec S768x256 1 × IVec S256x256 1 × IVec S256 1 × IVec S256x256 1 × IVec S256 1 × IVec S256x256 1 × IVec S256 1 :=
  let main_v18 : FVec F S256 .f32 := broadcastInDim S256 ![] bcast_S_S256 main_cst_4
  let main_v19 : IVec S256 1 := cmpf .olt main_v17 main_v18
  let main_v20 : FVec F S256x256 .f32 := Host.absf main_arg4
  let main_cst_5 : FVec F S_ .f32 := constant S_ .f32 0x7F800000#32
  let main_v21 : FVec F S256x256 .f32 := broadcastInDim S256x256 ![] bcast_S_S256x256 main_cst_5
  let main_v22 : IVec S256x256 1 := cmpf .olt main_v20 main_v21
  let main_v23 : FVec F S256 .f32 := Host.absf main_arg5
  let main_cst_6 : FVec F S_ .f32 := constant S_ .f32 0x7F800000#32
  let main_v24 : FVec F S256 .f32 := broadcastInDim S256 ![] bcast_S_S256 main_cst_6
  let main_v25 : IVec S256 1 := cmpf .olt main_v23 main_v24
  let main_v26 : FVec F S256x256 .f32 := Host.absf main_arg6
  let main_cst_7 : FVec F S_ .f32 := constant S_ .f32 0x7F800000#32
  let main_v27 : FVec F S256x256 .f32 := broadcastInDim S256x256 ![] bcast_S_S256x256 main_cst_7
  let main_v28 : IVec S256x256 1 := cmpf .olt main_v26 main_v27
  let main_v29 : FVec F S256 .f32 := Host.absf main_arg7
  let main_cst_8 : FVec F S_ .f32 := constant S_ .f32 0x7F800000#32
  let main_v30 : FVec F S256 .f32 := broadcastInDim S256 ![] bcast_S_S256 main_cst_8
  let main_v31 : IVec S256 1 := cmpf .olt main_v29 main_v30
  let main_cst_9 : FVec F S_ .f32 := constant S_ .f32 0x00000000#32
  let main_v32 : FVec F S768 .f32 := broadcastInDim S768 ![] bcast_S_S768 main_cst_9
  let main_v33 : IVec S768 1 := cmpf .ogt main_v10 main_v32
  (main_v33, main_v13, main_v16, main_v19, main_v22, main_v25, main_v28, main_v31)

def fn {F : FTy → Type} [FloatOps F] (main_arg0 : FVec F S768x256 .f32) (main_arg1 : FVec F S768x768 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) : IVec S768 1 × IVec S768x256 1 × IVec S256x256 1 × IVec S256 1 × IVec S256x256 1 × IVec S256 1 × IVec S256x256 1 × IVec S256 1 :=
  let main_v0 : IVec S768 32 := iotaInDim S768 32 0
  let main_v1 : IVec S768x1 32 := broadcastInDim S768x1 ![0] bcast_S768_S768x1_0 main_v0
  let main_v2 : IVec S768 32 := iotaInDim S768 32 0
  let main_v3 : IVec S1x768 32 := broadcastInDim S1x768 ![1] bcast_S768_S1x768_1 main_v2
  let main_v4 : IVec S768x768 32 := broadcastInDim S768x768 ![0, 1] bcast_S768x1_S768x768_0_1 main_v1
  let main_v5 : IVec S768x768 32 := broadcastInDim S768x768 ![0, 1] bcast_S1x768_S768x768_0_1 main_v3
  let main_v6 : IVec S768x768 1 := cmpi .slt main_v4 main_v5
  let main_cst : FVec F S_ .f32 := constant S_ .f32 0x00000000#32
  let main_v7 : FVec F S768x768 .f32 := fn_where (F := F) main_v6 main_arg1 main_cst
  let main_cst_0 : FVec F S_ .f32 := constant S_ .f32 0x00000000#32
  let main_v8 : FVec F S768 .f32 := (fun x v => Host.reduceAdd x v reducesTo_S768x768_S768_d0 h_S_) main_v7 main_cst_0
  let main_cst_1 : FVec F S_ .f32 := constant S_ .f32 0x3F800000#32
  let main_v9 : FVec F S768 .f32 := broadcastInDim S768 ![] bcast_S_S768 main_cst_1
  let main_v10 : FVec F S768 .f32 := addf main_v8 main_v9
  let main_v11 : FVec F S768x256 .f32 := Host.absf main_arg0
  let main_cst_2 : FVec F S_ .f32 := constant S_ .f32 0x7F800000#32
  let main_v12 : FVec F S768x256 .f32 := broadcastInDim S768x256 ![] bcast_S_S768x256 main_cst_2
  let main_v13 : IVec S768x256 1 := cmpf .olt main_v11 main_v12
  let main_v14 : FVec F S256x256 .f32 := Host.absf main_arg2
  let main_cst_3 : FVec F S_ .f32 := constant S_ .f32 0x7F800000#32
  let main_v15 : FVec F S256x256 .f32 := broadcastInDim S256x256 ![] bcast_S_S256x256 main_cst_3
  let main_v16 : IVec S256x256 1 := cmpf .olt main_v14 main_v15
  let main_v17 : FVec F S256 .f32 := Host.absf main_arg3
  let main_cst_4 : FVec F S_ .f32 := constant S_ .f32 0x7F800000#32
  fn_part1 (F := F) main_arg4 main_arg5 main_arg6 main_arg7 main_v10 main_v13 main_v16 main_v17 main_cst_4
-- ==== Kernel.lean ====
abbrev S768x256 : Shape := ⟨2, ![768, 256]⟩
abbrev S768x768 : Shape := ⟨2, ![768, 768]⟩
abbrev S256x256 : Shape := ⟨2, ![256, 256]⟩
abbrev S256 : Shape := ⟨1, ![256]⟩
abbrev S1x256 : Shape := ⟨2, ![1, 256]⟩
abbrev S768 : Shape := ⟨1, ![768]⟩
abbrev S1x768 : Shape := ⟨2, ![1, 768]⟩
abbrev S768x1 : Shape := ⟨2, ![768, 1]⟩
abbrev S256x768 : Shape := ⟨2, ![256, 768]⟩

abbrev nBuf : Space → Nat
  | .hbm => 18
  | .vmem => 13
  | .smem => 0
  | _ => 0

abbrev bufTy : (tb : Table) → Fin (tcTables nBuf tb) → BufTy
  | .hbm, ⟨0, _⟩ => ⟨S768x256, .f32⟩
  | .hbm, ⟨1, _⟩ => ⟨S768x768, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S768x256, .f32⟩
  | .local _ .vmem, ⟨0, _⟩ => ⟨S768x768, .f32⟩
  | .local _ .vmem, ⟨1, _⟩ => ⟨S768x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S768x256, .f32⟩
  | _, _ => ⟨S768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S768x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S768x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== ReferenceIdeal.lean ====
abbrev S768x256 : Shape := ⟨2, ![768, 256]⟩
abbrev S768x768 : Shape := ⟨2, ![768, 768]⟩
abbrev S256x256 : Shape := ⟨2, ![256, 256]⟩
abbrev S256 : Shape := ⟨1, ![256]⟩
abbrev S_ : Shape := ⟨0, ![]⟩
abbrev S589824 : Shape := ⟨1, ![589824]⟩
abbrev S294528 : Shape := ⟨1, ![294528]⟩
abbrev S589824x1 : Shape := ⟨2, ![589824, 1]⟩
abbrev S1 : Shape := ⟨1, ![1]⟩
abbrev S294528x1 : Shape := ⟨2, ![294528, 1]⟩
abbrev S294528x2 : Shape := ⟨2, ![294528, 2]⟩
abbrev S768 : Shape := ⟨1, ![768]⟩
abbrev S295296 : Shape := ⟨1, ![295296]⟩
abbrev S295296x1 : Shape := ⟨2, ![295296, 1]⟩
abbrev S295296x256 : Shape := ⟨2, ![295296, 256]⟩
abbrev S1x256 : Shape := ⟨2, ![1, 256]⟩
abbrev S256x768 : Shape := ⟨2, ![256, 768]⟩
abbrev S768x1 : Shape := ⟨2, ![768, 1]⟩

abbrev nBuf : Space → Nat
  | .hbm => 283
  | .vmem => 0
  | .smem => 0
  | _ => 0

abbrev hbmTy0_0 (i : Nat) : BufTy := match i % 128 with
  | 0 => ⟨S768x256, .f32⟩
  | 1 => ⟨S768x768, .f32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S_, .f32⟩
  | 13 => ⟨S768x768, .f32⟩
  | 14 => ⟨S768x768, .i32⟩
  | 15 => ⟨S_, .i32⟩
  | 16 => ⟨S768x768, .i32⟩
  | 17 => ⟨S768x768, .i32⟩
  | 18 => ⟨S768x768, .i32⟩
  | 19 => ⟨S768x768, .i1⟩
  | 20 => ⟨S_, .f32⟩
  | 21 => ⟨S768x768, .f32⟩
  | 22 => ⟨S768x768, .f32⟩
  | 23 => ⟨S589824, .f32⟩
  | 24 => ⟨S_, .f32⟩
  | 25 => ⟨S589824, .f32⟩
  | 26 => ⟨S589824, .i1⟩
  | 27 => ⟨S589824, .i32⟩
  | 28 => ⟨S_, .i32⟩
  | 29 => ⟨S_, .i32⟩
  | 30 => ⟨S589824, .i32⟩
  | 31 => ⟨S_, .i32⟩
  | 32 => ⟨S294528, .i32⟩
  | 33 => ⟨S_, .i32⟩
  | 34 => ⟨S589824, .i32⟩
  | 35 => ⟨S589824, .i1⟩
  | 36 => ⟨S_, .i32⟩
  | 37 => ⟨S589824, .i32⟩
  | 38 => ⟨S589824, .i32⟩
  | 39 => ⟨S589824, .i32⟩
  | 40 => ⟨S589824x1, .i32⟩
  | 41 => ⟨S_, .i32⟩
  | 42 => ⟨S589824, .i32⟩
  | 43 => ⟨S294528, .i32⟩
  | 44 => ⟨S_, .i32⟩
  | 45 => ⟨S_, .i32⟩
  | 46 => ⟨S294528, .i32⟩
  | 47 => ⟨S_, .i32⟩
  | 48 => ⟨S_, .i32⟩
  | 49 => ⟨S294528, .i32⟩
  | 50 => ⟨S294528, .i32⟩
  | 51 => ⟨S294528, .i32⟩
  | 52 => ⟨S_, .i32⟩
  | 53 => ⟨S294528, .i32⟩
  | 54 => ⟨S294528, .i1⟩
  | 55 => ⟨S294528, .i32⟩
  | 56 => ⟨S294528, .i32⟩
  | 57 => ⟨S_, .i32⟩
  | 58 => ⟨S294528, .i32⟩
  | 59 => ⟨S294528, .i1⟩
  | 60 => ⟨S294528, .i1⟩
  | 61 => ⟨S_, .i32⟩
  | 62 => ⟨S294528, .i32⟩
  | 63 => ⟨S294528, .i32⟩
  | 64 => ⟨S294528, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S294528, .i32⟩
  | 72 => ⟨S294528, .i32⟩
  | 73 => ⟨S_, .i32⟩
  | 74 => ⟨S294528, .i32⟩
  | 75 => ⟨S294528, .i1⟩
  | 76 => ⟨S_, .i32⟩
  | 77 => ⟨S294528, .i32⟩
  | 78 => ⟨S294528, .i1⟩
  | 79 => ⟨S_, .i32⟩
  | 80 => ⟨S_, .i1⟩
  | 81 => ⟨S294528, .i1⟩
  | 82 => ⟨S294528, .i1⟩
  | 83 => ⟨S294528, .i1⟩
  | 84 => ⟨S294528, .i32⟩
  | 85 => ⟨S294528, .i32⟩
  | 86 => ⟨S294528, .i32⟩
  | 87 => ⟨S_, .i32⟩
  | 88 => ⟨S_, .i32⟩
  | 89 => ⟨S294528, .i32⟩
  | 90 => ⟨S294528, .i32⟩
  | 91 => ⟨S294528, .i32⟩
  | 92 => ⟨S_, .i32⟩
  | 93 => ⟨S294528, .i32⟩
  | 94 => ⟨S294528, .i1⟩
  | 95 => ⟨S294528, .i32⟩
  | 96 => ⟨S294528, .i32⟩
  | 97 => ⟨S_, .i32⟩
  | 98 => ⟨S294528, .i32⟩
  | 99 => ⟨S294528, .i1⟩
  | 100 => ⟨S294528, .i1⟩
  | 101 => ⟨S_, .i32⟩
  | 102 => ⟨S294528, .i32⟩
  | 103 => ⟨S294528, .i32⟩
  | 104 => ⟨S294528, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S294528, .i32⟩
  | 112 => ⟨S294528, .i32⟩
  | 113 => ⟨S_, .i32⟩
  | 114 => ⟨S294528, .i32⟩
  | 115 => ⟨S294528, .i1⟩
  | 116 => ⟨S_, .i32⟩
  | 117 => ⟨S294528, .i32⟩
  | 118 => ⟨S294528, .i1⟩
  | 119 => ⟨S_, .i32⟩
  | 120 => ⟨S_, .i1⟩
  | 121 => ⟨S294528, .i1⟩
  | 122 => ⟨S294528, .i1⟩
  | 123 => ⟨S294528, .i1⟩
  | 124 => ⟨S294528, .i32⟩
  | 125 => ⟨S294528, .i32⟩
  | 126 => ⟨S294528, .i32⟩
  | 127 => ⟨S589824, .i32⟩
  | _ => ⟨S768x256, .f32⟩

abbrev hbmTy0_1 (i : Nat) : BufTy := match i % 128 with
  | 0 => ⟨S_, .i32⟩
  | 1 => ⟨S_, .i32⟩
  | 2 => ⟨S1, .i32⟩
  | 3 => ⟨S294528, .i32⟩
  | 4 => ⟨S294528, .i32⟩
  | 5 => ⟨S294528, .i1⟩
  | 6 => ⟨S_, .i32⟩
  | 7 => ⟨S_, .i32⟩
  | 8 => ⟨S294528, .i32⟩
  | 9 => ⟨S294528, .i32⟩
  | 10 => ⟨S_, .i32⟩
  | 11 => ⟨S_, .i32⟩
  | 12 => ⟨S294528, .i32⟩
  | 13 => ⟨S294528, .i32⟩
  | 14 => ⟨S_, .i32⟩
  | 15 => ⟨S294528, .i32⟩
  | 16 => ⟨S294528, .i1⟩
  | 17 => ⟨S_, .i32⟩
  | 18 => ⟨S294528, .i32⟩
  | 19 => ⟨S294528, .i32⟩
  | 20 => ⟨S294528, .i32⟩
  | 21 => ⟨S_, .i32⟩
  | 22 => ⟨S294528, .i32⟩
  | 23 => ⟨S294528, .i1⟩
  | 24 => ⟨S_, .i32⟩
  | 25 => ⟨S294528, .i32⟩
  | 26 => ⟨S294528, .i32⟩
  | 27 => ⟨S294528, .i32⟩
  | 28 => ⟨S294528x1, .i32⟩
  | 29 => ⟨S294528x1, .i32⟩
  | 30 => ⟨S294528x2, .i32⟩
  | 31 => ⟨S294528, .f32⟩
  | 32 => ⟨S768, .i32⟩
  | 33 => ⟨S295296, .i32⟩
  | 34 => ⟨S768, .i32⟩
  | 35 => ⟨S295296, .i32⟩
  | 36 => ⟨S_, .f32⟩
  | 37 => ⟨S768, .f32⟩
  | 38 => ⟨S295296, .f32⟩
  | 39 => ⟨S_, .f32⟩
  | 40 => ⟨S768, .f32⟩
  | 41 => ⟨S_, .i32⟩
  | 42 => ⟨S295296, .i32⟩
  | 43 => ⟨S295296, .i1⟩
  | 44 => ⟨S_, .i32⟩
  | 45 => ⟨S295296, .i32⟩
  | 46 => ⟨S295296, .i32⟩
  | 47 => ⟨S295296, .i32⟩
  | 48 => ⟨S295296x1, .i32⟩
  | 49 => ⟨S768, .f32⟩
  | 50 => ⟨S_, .f32⟩
  | 51 => ⟨S768, .f32⟩
  | 52 => ⟨S768, .i1⟩
  | 53 => ⟨S_, .f32⟩
  | 54 => ⟨S768, .f32⟩
  | 55 => ⟨S768, .i1⟩
  | 56 => ⟨S_, .f32⟩
  | 57 => ⟨S_, .f32⟩
  | 58 => ⟨S768, .f32⟩
  | 59 => ⟨S768, .f32⟩
  | 60 => ⟨S768, .f32⟩
  | 61 => ⟨S_, .f32⟩
  | 62 => ⟨S_, .f32⟩
  | 63 => ⟨S768, .f32⟩
  | 64 => ⟨S768, .f32⟩
  | 65 => ⟨S_, .i32⟩
  | 66 => ⟨S295296, .i32⟩
  | 67 => ⟨S295296, .i1⟩
  | 68 => ⟨S_, .i32⟩
  | 69 => ⟨S295296, .i32⟩
  | 70 => ⟨S295296, .i32⟩
  | 71 => ⟨S295296, .i32⟩
  | 72 => ⟨S295296x1, .i32⟩
  | 73 => ⟨S295296, .f32⟩
  | 74 => ⟨S295296, .f32⟩
  | 75 => ⟨S_, .i32⟩
  | 76 => ⟨S295296, .i32⟩
  | 77 => ⟨S295296, .i1⟩
  | 78 => ⟨S_, .i32⟩
  | 79 => ⟨S295296, .i32⟩
  | 80 => ⟨S295296, .i32⟩
  | 81 => ⟨S295296, .i32⟩
  | 82 => ⟨S295296x1, .i32⟩
  | 83 => ⟨S295296, .f32⟩
  | 84 => ⟨S295296, .f32⟩
  | 85 => ⟨S768x256, .f32⟩
  | 86 => ⟨S_, .f32⟩
  | 87 => ⟨S768x256, .f32⟩
  | 88 => ⟨S295296x1, .f32⟩
  | 89 => ⟨S_, .i32⟩
  | 90 => ⟨S295296, .i32⟩
  | 91 => ⟨S295296, .i1⟩
  | 92 => ⟨S_, .i32⟩
  | 93 => ⟨S295296, .i32⟩
  | 94 => ⟨S295296, .i32⟩
  | 95 => ⟨S295296, .i32⟩
  | 96 => ⟨S295296x1, .i32⟩
  | 97 => ⟨S295296x256, .f32⟩
  | 98 => ⟨S295296x256, .f32⟩
  | 99 => ⟨S295296x256, .f32⟩
  | 100 => ⟨S_, .i32⟩
  | 101 => ⟨S295296, .i32⟩
  | 102 => ⟨S295296, .i1⟩
  | 103 => ⟨S_, .i32⟩
  | 104 => ⟨S295296, .i32⟩
  | 105 => ⟨S295296, .i32⟩
  | 106 => ⟨S295296, .i32⟩
  | 107 => ⟨S295296x1, .i32⟩
  | 108 => ⟨S768x256, .f32⟩
  | 109 => ⟨S1x256, .f32⟩
  | 110 => ⟨S768x256, .f32⟩
  | 111 => ⟨S768x256, .f32⟩
  | 112 => ⟨S_, .f32⟩
  | 113 => ⟨S768x256, .f32⟩
  | 114 => ⟨S768x256, .f32⟩
  | 115 => ⟨S768x256, .f32⟩
  | 116 => ⟨S768x256, .f32⟩
  | 117 => ⟨S1x256, .f32⟩
  | 118 => ⟨S768x256, .f32⟩
  | 119 => ⟨S768x256, .f32⟩
  | 120 => ⟨S768x256, .f32⟩
  | 121 => ⟨S1x256, .f32⟩
  | 122 => ⟨S768x256, .f32⟩
  | 123 => ⟨S768x256, .f32⟩
  | 124 => ⟨S768x256, .f32⟩
  | 125 => ⟨S1x256, .f32⟩
  | 126 => ⟨S768x256, .f32⟩
  | 127 => ⟨S768x256, .f32⟩
  | _ => ⟨S768x256, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S256x768, .f32⟩
  | 5 => ⟨S768x768, .f32⟩
  | 6 => ⟨S768x768, .f32⟩
  | 7 => ⟨S768x768, .f32⟩
  | 8 => ⟨S_, .f32⟩
  | 9 => ⟨S768, .f32⟩
  | 10 => ⟨S_, .f32⟩
  | 11 => ⟨S768, .f32⟩
  | 12 => ⟨S768, .f32⟩
  | 13 => ⟨S768x1, .f32⟩
  | 14 => ⟨S768x768, .f32⟩
  | 15 => ⟨S768x768, .f32⟩
  | 16 => ⟨S768x768, .f32⟩
  | 17 => ⟨S_, .f32⟩
  | 18 => ⟨S768, .f32⟩
  | 19 => ⟨S768x1, .f32⟩
  | 20 => ⟨S768x768, .f32⟩
  | 21 => ⟨S768x768, .f32⟩
  | 22 => ⟨S768x256, .f32⟩
  | 23 => ⟨S768x256, .f32⟩
  | 24 => ⟨S1x256, .f32⟩
  | 25 => ⟨S768x256, .f32⟩
  | 26 => ⟨S768x256, .f32⟩
  | _ => ⟨S768x256, .f32⟩

abbrev hbmTy (i : Nat) : BufTy := match i / 128 with
  | 0 => hbmTy0_0 i
  | 1 => hbmTy0_1 i
  | 2 => hbmTy0_2 i
  | _ => ⟨S768x256, .f32⟩

abbrev bufTy : (tb : Table) → Fin (tcTables nBuf tb) → BufTy
  | .hbm, ⟨i, _⟩ => hbmTy i
  | _, _ => ⟨S768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_cst : Ref sig .tc := ⟨.hbm, 20, rfl⟩
abbrev main_call0_v5 : Ref sig .tc := ⟨.hbm, 21, rfl⟩
abbrev main_v1 : Ref sig .tc := ⟨.hbm, 22, rfl⟩
abbrev main_v2 : Ref sig .tc := ⟨.hbm, 23, rfl⟩
abbrev main_cst_0 : Ref sig .tc := ⟨.hbm, 24, rfl⟩
abbrev main_v3 : Ref sig .tc := ⟨.hbm, 25, rfl⟩
abbrev main_v4 : Ref sig .tc := ⟨.hbm, 26, rfl⟩
abbrev main_call1_v0 : Ref sig .tc := ⟨.hbm, 27, rfl⟩
abbrev main_call1_call0_c : Ref sig .tc := ⟨.hbm, 28, rfl⟩
abbrev main_call1_call0_v0 : Ref sig .tc := ⟨.hbm, 29, rfl⟩
abbrev main_v5 : Ref sig .tc := ⟨.hbm, 30, rfl⟩
abbrev main_c : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_3 : Ref sig .tc := ⟨.hbm, 41, rfl⟩
abbrev main_v13 : Ref sig .tc := ⟨.hbm, 42, rfl⟩
abbrev main_v14 : Ref sig .tc := ⟨.hbm, 43, rfl⟩
abbrev main_call2_call0_c : Ref sig .tc := ⟨.hbm, 44, rfl⟩
abbrev main_call2_call0_v0 : Ref sig .tc := ⟨.hbm, 45, rfl⟩
abbrev main_v15 : Ref sig .tc := ⟨.hbm, 46, rfl⟩
abbrev main_c_4 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_v6 : Ref sig .tc := ⟨.hbm, 54, rfl⟩
abbrev main_call3_v7 : Ref sig .tc := ⟨.hbm, 55, rfl⟩
abbrev main_call3_v8 : Ref sig .tc := ⟨.hbm, 56, rfl⟩
abbrev main_call3_c : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_call3_c_0 : Ref sig .tc := ⟨.hbm, 61, rfl⟩
abbrev main_call3_v12 : Ref sig .tc := ⟨.hbm, 62, rfl⟩
abbrev main_call3_v13 : Ref sig .tc := ⟨.hbm, 63, rfl⟩
abbrev main_v16 : Ref sig .tc := ⟨.hbm, 64, rfl⟩
abbrev main_c_5 : Ref sig .tc := ⟨.hbm, 65, rfl⟩
abbrev main_call4_v0 : Ref sig .tc := ⟨.hbm, 66, rfl⟩
abbrev main_call4_c : Ref sig .tc := ⟨.hbm, 67, rfl⟩
abbrev main_call4_v1 : Ref sig .tc := ⟨.hbm, 68, rfl⟩
abbrev main_call4_c_0 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_call4_c_1 : Ref sig .tc := ⟨.hbm, 73, rfl⟩
abbrev main_call4_v5 : Ref sig .tc := ⟨.hbm, 74, rfl⟩
abbrev main_call4_v6 : Ref sig .tc := ⟨.hbm, 75, rfl⟩
abbrev main_call4_c_2 : Ref sig .tc := ⟨.hbm, 76, rfl⟩
abbrev main_call4_v7 : Ref sig .tc := ⟨.hbm, 77, rfl⟩
abbrev main_call4_v8 : Ref sig .tc := ⟨.hbm, 78, rfl⟩
abbrev main_call4_c_3 : Ref sig .tc := ⟨.hbm, 79, rfl⟩
abbrev main_call4_v9 : Ref sig .tc := ⟨.hbm, 80, rfl⟩
abbrev main_call4_v10 : Ref sig .tc := ⟨.hbm, 81, rfl⟩
abbrev main_call4_v11 : Ref sig .tc := ⟨.hbm, 82, rfl⟩
abbrev main_call4_v12 : Ref sig .tc := ⟨.hbm, 83, rfl⟩
abbrev main_call4_v13 : Ref sig .tc := ⟨.hbm, 84, rfl⟩
abbrev main_call4_v14 : Ref sig .tc := ⟨.hbm, 85, rfl⟩
abbrev main_v17 : Ref sig .tc := ⟨.hbm, 86, rfl⟩
abbrev main_c_6 : Ref sig .tc := ⟨.hbm, 87, rfl⟩
abbrev main_call5_v0 : Ref sig .tc := ⟨.hbm, 88, rfl⟩
abbrev main_call5_v1 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_v5 : Ref sig .tc := ⟨.hbm, 93, rfl⟩
abbrev main_call5_v6 : Ref sig .tc := ⟨.hbm, 94, rfl⟩
abbrev main_call5_v7 : Ref sig .tc := ⟨.hbm, 95, rfl⟩
abbrev main_call5_v8 : Ref sig .tc := ⟨.hbm, 96, rfl⟩
abbrev main_call5_c : Ref sig .tc := ⟨.hbm, 97, rfl⟩
abbrev main_call5_v9 : Ref sig .tc := ⟨.hbm, 98, rfl⟩
abbrev main_call5_v10 : Ref sig .tc := ⟨.hbm, 99, rfl⟩
abbrev main_call5_v11 : Ref sig .tc := ⟨.hbm, 100, rfl⟩
abbrev main_call5_c_0 : Ref sig .tc := ⟨.hbm, 101, rfl⟩
abbrev main_call5_v12 : Ref sig .tc := ⟨.hbm, 102, rfl⟩
abbrev main_call5_v13 : Ref sig .tc := ⟨.hbm, 103, rfl⟩
abbrev main_v18 : Ref sig .tc := ⟨.hbm, 104, rfl⟩
abbrev main_c_7 : Ref sig .tc := ⟨.hbm, 105, rfl⟩
abbrev main_call6_v0 : Ref sig .tc := ⟨.hbm, 106, rfl⟩
abbrev main_call6_c : Ref sig .tc := ⟨.hbm, 107, rfl⟩
abbrev main_call6_v1 : Ref sig .tc := ⟨.hbm, 108, rfl⟩
abbrev main_call6_c_0 : Ref sig .tc := ⟨.hbm, 109, rfl⟩
abbrev main_call6_v2 : Ref sig .tc := ⟨.hbm, 110, rfl⟩
abbrev main_call6_v3 : Ref sig .tc := ⟨.hbm, 111, rfl⟩
abbrev main_call6_v4 : Ref sig .tc := ⟨.hbm, 112, rfl⟩
abbrev main_call6_c_1 : Ref sig .tc := ⟨.hbm, 113, rfl⟩
abbrev main_call6_v5 : Ref sig .tc := ⟨.hbm, 114, rfl⟩
abbrev main_call6_v6 : Ref sig .tc := ⟨.hbm, 115, rfl⟩
abbrev main_call6_c_2 : Ref sig .tc := ⟨.hbm, 116, rfl⟩
abbrev main_call6_v7 : Ref sig .tc := ⟨.hbm, 117, rfl⟩
abbrev main_call6_v8 : Ref sig .tc := ⟨.hbm, 118, rfl⟩
abbrev main_call6_c_3 : Ref sig .tc := ⟨.hbm, 119, rfl⟩
abbrev main_call6_v9 : Ref sig .tc := ⟨.hbm, 120, rfl⟩
abbrev main_call6_v10 : Ref sig .tc := ⟨.hbm, 121, rfl⟩
abbrev main_call6_v11 : Ref sig .tc := ⟨.hbm, 122, rfl⟩
abbrev main_call6_v12 : Ref sig .tc := ⟨.hbm, 123, rfl⟩
abbrev main_call6_v13 : Ref sig .tc := ⟨.hbm, 124, rfl⟩
abbrev main_call6_v14 : Ref sig .tc := ⟨.hbm, 125, rfl⟩
abbrev main_v19 : Ref sig .tc := ⟨.hbm, 126, rfl⟩
abbrev main_v20 : Ref sig .tc := ⟨.hbm, 127, rfl⟩
abbrev main_c_8 : Ref sig .tc := ⟨.hbm, 128, rfl⟩
abbrev main_v21 : Ref sig .tc := ⟨.hbm, 129, rfl⟩
abbrev main_v22 : Ref sig .tc := ⟨.hbm, 130, rfl⟩
abbrev main_v23 : Ref sig .tc := ⟨.hbm, 131, rfl⟩
abbrev main_v24 : Ref sig .tc := ⟨.hbm, 132, rfl⟩
abbrev main_v25 : Ref sig .tc := ⟨.hbm, 133, rfl⟩
abbrev main_c_9 : Ref sig .tc := ⟨.hbm, 134, rfl⟩
abbrev main_call7_v0 : Ref sig .tc := ⟨.hbm, 135, rfl⟩
abbrev main_call7_v1 : Ref sig .tc := ⟨.hbm, 136, rfl⟩
abbrev main_v26 : Ref sig .tc := ⟨.hbm, 137, rfl⟩
abbrev main_c_10 : Ref sig .tc := ⟨.hbm, 138, rfl⟩
abbrev main_call8_v0 : Ref sig .tc := ⟨.hbm, 139, rfl⟩
abbrev main_call8_v1 : Ref sig .tc := ⟨.hbm, 140, rfl⟩
abbrev main_v27 : Ref sig .tc := ⟨.hbm, 141, rfl⟩
abbrev main_c_11 : Ref sig .tc := ⟨.hbm, 142, rfl⟩
abbrev main_v28 : Ref sig .tc := ⟨.hbm, 143, rfl⟩
abbrev main_v29 : Ref sig .tc := ⟨.hbm, 144, rfl⟩
abbrev main_c_12 : Ref sig .tc := ⟨.hbm, 145, rfl⟩
abbrev main_v30 : Ref sig .tc := ⟨.hbm, 146, rfl⟩
abbrev main_v31 : Ref sig .tc := ⟨.hbm, 147, rfl⟩
abbrev main_v32 : Ref sig .tc := ⟨.hbm, 148, rfl⟩
abbrev main_c_13 : Ref sig .tc := ⟨.hbm, 149, rfl⟩
abbrev main_v33 : Ref sig .tc := ⟨.hbm, 150, rfl⟩
abbrev main_v34 : Ref sig .tc := ⟨.hbm, 151, rfl⟩
abbrev main_c_14 : Ref sig .tc := ⟨.hbm, 152, rfl⟩
abbrev main_v35 : Ref sig .tc := ⟨.hbm, 153, rfl⟩
abbrev main_v36 : Ref sig .tc := ⟨.hbm, 154, rfl⟩
abbrev main_v37 : Ref sig .tc := ⟨.hbm, 155, rfl⟩
abbrev main_v38 : Ref sig .tc := ⟨.hbm, 156, rfl⟩
abbrev main_v39 : Ref sig .tc := ⟨.hbm, 157, rfl⟩
abbrev main_v40 : Ref sig .tc := ⟨.hbm, 158, rfl⟩
abbrev main_v41 : Ref sig .tc := ⟨.hbm, 159, rfl⟩
abbrev main_v42 : Ref sig .tc := ⟨.hbm, 160, rfl⟩
abbrev main_v43 : Ref sig .tc := ⟨.hbm, 161, rfl⟩
abbrev main_v44 : Ref sig .tc := ⟨.hbm, 162, rfl⟩
abbrev main_v45 : Ref sig .tc := ⟨.hbm, 163, rfl⟩
abbrev main_cst_15 : Ref sig .tc := ⟨.hbm, 164, rfl⟩
abbrev main_v46 : Ref sig .tc := ⟨.hbm, 165, rfl⟩
abbrev main_v47 : Ref sig .tc := ⟨.hbm, 166, rfl⟩
abbrev main_cst_16 : Ref sig .tc := ⟨.hbm, 167, rfl⟩
abbrev main_v48 : Ref sig .tc := ⟨.hbm, 168, rfl⟩
abbrev main_c_17 : Ref sig .tc := ⟨.hbm, 169, rfl⟩
abbrev main_v49 : Ref sig .tc := ⟨.hbm, 170, rfl⟩
abbrev main_v50 : Ref sig .tc := ⟨.hbm, 171, rfl⟩
abbrev main_c_18 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_cst_19 : Ref sig .tc := ⟨.hbm, 178, rfl⟩
abbrev main_v56 : Ref sig .tc := ⟨.hbm, 179, rfl⟩
abbrev main_v57 : Ref sig .tc := ⟨.hbm, 180, rfl⟩
abbrev main_cst_20 : Ref sig .tc := ⟨.hbm, 181, rfl⟩
abbrev main_v58 : Ref sig .tc := ⟨.hbm, 182, rfl⟩
abbrev main_v59 : Ref sig .tc := ⟨.hbm, 183, rfl⟩
abbrev main_cst_21 : Ref sig .tc := ⟨.hbm, 184, rfl⟩
abbrev main_call9_v0 : Ref sig .tc := ⟨.hbm, 185, rfl⟩
abbrev main_call9_v1 : Ref sig .tc := ⟨.hbm, 186, rfl⟩
abbrev main_v60 : Ref sig .tc := ⟨.hbm, 187, rfl⟩
abbrev main_v61 : Ref sig .tc := ⟨.hbm, 188, rfl⟩
abbrev main_cst_22 : Ref sig .tc := ⟨.hbm, 189, rfl⟩
abbrev main_call10_v0 : Ref sig .tc := ⟨.hbm, 190, rfl⟩
abbrev main_call10_v1 : Ref sig .tc := ⟨.hbm, 191, rfl⟩
abbrev main_v62 : Ref sig .tc := ⟨.hbm, 192, rfl⟩
abbrev main_c_23 : Ref sig .tc := ⟨.hbm, 193, rfl⟩
abbrev main_v63 : Ref sig .tc := ⟨.hbm, 194, rfl⟩
abbrev main_v64 : Ref sig .tc := ⟨.hbm, 195, rfl⟩
abbrev main_c_24 : Ref sig .tc := ⟨.hbm, 196, rfl⟩
abbrev main_v65 : Ref sig .tc := ⟨.hbm, 197, rfl⟩
abbrev main_v66 : Ref sig .tc := ⟨.hbm, 198, rfl⟩
abbrev main_v67 : Ref sig .tc := ⟨.hbm, 199, rfl⟩
abbrev main_v68 : Ref sig .tc := ⟨.hbm, 200, rfl⟩
abbrev main_v69 : Ref sig .tc := ⟨.hbm, 201, rfl⟩
abbrev main_v70 : Ref sig .tc := ⟨.hbm, 202, rfl⟩
abbrev main_c_25 : Ref sig .tc := ⟨.hbm, 203, rfl⟩
abbrev main_v71 : Ref sig .tc := ⟨.hbm, 204, rfl⟩
abbrev main_v72 : Ref sig .tc := ⟨.hbm, 205, rfl⟩
abbrev main_c_26 : Ref sig .tc := ⟨.hbm, 206, rfl⟩
abbrev main_v73 : Ref sig .tc := ⟨.hbm, 207, rfl⟩
abbrev main_v74 : Ref sig .tc := ⟨.hbm, 208, rfl⟩
abbrev main_v75 : Ref sig .tc := ⟨.hbm, 209, rfl⟩
abbrev main_v76 : Ref sig .tc := ⟨.hbm, 210, rfl⟩
abbrev main_v77 : Ref sig .tc := ⟨.hbm, 211, rfl⟩
abbrev main_v78 : Ref sig .tc := ⟨.hbm, 212, rfl⟩
abbrev main_v79 : Ref sig .tc := ⟨.hbm, 213, rfl⟩
abbrev main_cst_27 : Ref sig .tc := ⟨.hbm, 214, rfl⟩
abbrev main_v80 : Ref sig .tc := ⟨.hbm, 215, rfl⟩
abbrev main_v81 : Ref sig .tc := ⟨.hbm, 216, rfl⟩
abbrev main_c_28 : Ref sig .tc := ⟨.hbm, 217, rfl⟩
abbrev main_v82 : Ref sig .tc := ⟨.hbm, 218, rfl⟩
abbrev main_v83 : Ref sig .tc := ⟨.hbm, 219, rfl⟩
abbrev main_c_29 : Ref sig .tc := ⟨.hbm, 220, rfl⟩
abbrev main_v84 : Ref sig .tc := ⟨.hbm, 221, rfl⟩
abbrev main_v85 : Ref sig .tc := ⟨.hbm, 222, rfl⟩
abbrev main_v86 : Ref sig .tc := ⟨.hbm, 223, rfl⟩
abbrev main_v87 : Ref sig .tc := ⟨.hbm, 224, rfl⟩
abbrev main_v88 : Ref sig .tc := ⟨.hbm, 225, rfl⟩
abbrev main_v89 : Ref sig .tc := ⟨.hbm, 226, rfl⟩
abbrev main_v90 : Ref sig .tc := ⟨.hbm, 227, rfl⟩
abbrev main_c_30 : Ref sig .tc := ⟨.hbm, 228, rfl⟩
abbrev main_v91 : Ref sig .tc := ⟨.hbm, 229, rfl⟩
abbrev main_v92 : Ref sig .tc := ⟨.hbm, 230, rfl⟩
abbrev main_c_31 : Ref sig .tc := ⟨.hbm, 231, rfl⟩
abbrev main_v93 : Ref sig .tc := ⟨.hbm, 232, rfl⟩
abbrev main_v94 : Ref sig .tc := ⟨.hbm, 233, rfl⟩
abbrev main_v95 : Ref sig .tc := ⟨.hbm, 234, rfl⟩
abbrev main_v96 : Ref sig .tc := ⟨.hbm, 235, rfl⟩
abbrev main_v97 : Ref sig .tc := ⟨.hbm, 236, rfl⟩
abbrev main_v98 : Ref sig .tc := ⟨.hbm, 237, rfl⟩
abbrev main_v99 : Ref sig .tc := ⟨.hbm, 238, rfl⟩
abbrev main_v100 : Ref sig .tc := ⟨.hbm, 239, rfl⟩
abbrev main_call11_cst : Ref sig .tc := ⟨.hbm, 240, rfl⟩
abbrev main_call11_v0 : Ref sig .tc := ⟨.hbm, 241, rfl⟩
abbrev main_v101 : Ref sig .tc := ⟨.hbm, 242, rfl⟩
abbrev main_v102 : Ref sig .tc := ⟨.hbm, 243, rfl⟩
abbrev main_v103 : Ref sig .tc := ⟨.hbm, 244, rfl⟩
abbrev main_v104 : Ref sig .tc := ⟨.hbm, 245, rfl⟩
abbrev main_v105 : Ref sig .tc := ⟨.hbm, 246, rfl⟩
abbrev main_v106 : Ref sig .tc := ⟨.hbm, 247, rfl⟩
abbrev main_v107 : Ref sig .tc := ⟨.hbm, 248, rfl⟩
abbrev main_v108 : Ref sig .tc := ⟨.hbm, 249, rfl⟩
abbrev main_v109 : Ref sig .tc := ⟨.hbm, 250, rfl⟩
abbrev main_v110 : Ref sig .tc := ⟨.hbm, 251, rfl⟩
abbrev main_v111 : Ref sig .tc := ⟨.hbm, 252, rfl⟩
abbrev main_v112 : Ref sig .tc := ⟨.hbm, 253, rfl⟩
abbrev main_v113 : Ref sig .tc := ⟨.hbm, 254, rfl⟩
abbrev main_v114 : Ref sig .tc := ⟨.hbm, 255, rfl⟩
abbrev main_cst_32 : Ref sig .tc := ⟨.hbm, 256, rfl⟩
abbrev main_v115 : Ref sig .tc := ⟨.hbm, 257, rfl⟩
abbrev main_cst_33 : Ref sig .tc := ⟨.hbm, 258, rfl⟩
abbrev main_v116 : Ref sig .tc := ⟨.hbm, 259, rfl⟩
abbrev main_v117 : Ref sig .tc := ⟨.hbm, 260, rfl⟩
abbrev main_v118 : Ref sig .tc := ⟨.hbm, 261, rfl⟩
abbrev main_v119 : Ref sig .tc := ⟨.hbm, 262, rfl⟩
abbrev main_v120 : Ref sig .tc := ⟨.hbm, 263, rfl⟩
abbrev main_cst_34 : Ref sig .tc := ⟨.hbm, 264, rfl⟩
abbrev main_v121 : Ref sig .tc := ⟨.hbm, 265, rfl⟩
abbrev main_cst_35 : Ref sig .tc := ⟨.hbm, 266, rfl⟩
abbrev main_v122 : Ref sig .tc := ⟨.hbm, 267, rfl⟩
abbrev main_v123 : Ref sig .tc := ⟨.hbm, 268, rfl⟩
abbrev main_v124 : Ref sig .tc := ⟨.hbm, 269, rfl⟩
abbrev main_v125 : Ref sig .tc := ⟨.hbm, 270, rfl⟩
abbrev main_v126 : Ref sig .tc := ⟨.hbm, 271, rfl⟩
abbrev main_v127 : Ref sig .tc := ⟨.hbm, 272, rfl⟩
abbrev main_cst_36 : Ref sig .tc := ⟨.hbm, 273, rfl⟩
abbrev main_v128 : Ref sig .tc := ⟨.hbm, 274, rfl⟩
abbrev main_v129 : Ref sig .tc := ⟨.hbm, 275, rfl⟩
abbrev main_v130 : Ref sig .tc := ⟨.hbm, 276, rfl⟩
abbrev main_v131 : Ref sig .tc := ⟨.hbm, 277, rfl⟩
abbrev main_v132 : Ref sig .tc := ⟨.hbm, 278, rfl⟩
abbrev main_v133 : Ref sig .tc := ⟨.hbm, 279, rfl⟩
abbrev main_v134 : Ref sig .tc := ⟨.hbm, 280, rfl⟩
abbrev main_v135 : Ref sig .tc := ⟨.hbm, 281, rfl⟩
abbrev main_v136 : Ref sig .tc := ⟨.hbm, 282, rfl⟩

abbrev nD : Nat := 1
abbrev τ : Topo := Topo.v7x

variable {F : FTy → Type} [FloatOps F]
-- ==== Proof.Formulas.lean ====
/-
  The layer as formulas over arrays of extended reals read by rows and columns: the graph convolution as the reference and as the kernel state it, and the attention of both.
-/
module

public import Idealize.ShloMosaic.PureOps.Ideal
public import Idealize.ShloMosaic.Lib.ValueIdx

@[expose] public section

noncomputable section

namespace Cert.Formulas

open Idealize.ShloMosaic

/-- A matrix read by row and column. -/
abbrev Mat (n m : ℕ) := Fin n → Fin m → EReal
/-- A vector read by position. -/
abbrev Row (n : ℕ) := Fin n → EReal

/-- An array of two axes as a matrix. -/
def mat {n m : ℕ} (x : FVec Ideal ⟨2, ![n, m]⟩ .f32) : Mat n m := fun i j => x (ValueIdx.ix2 i j)
/-- An array of one axis as a row. -/
def row {n : ℕ} (x : FVec Ideal ⟨1, ![n]⟩ .f32) : Row n := fun i => x (ValueIdx.ix1 i)

/-- The matrix product. -/
def mm {n k m : ℕ} (A : Mat n k) (B : Mat k m) : Mat n m := fun i j => ∑ l, A i l * B l j

/-- A linear layer with its bias. -/
def lin {n k m : ℕ} (A : Mat n k) (B : Mat k m) (b : Row m) : Mat n m := fun i j => mm A B i j + b j

/-- The degree of node `j`: the entries of its column strictly above the diagonal, and 1 for the self loop. -/
def deg {n : ℕ} (E : Mat n n) (j : Fin n) : EReal := (∑ i, if i < j then E i j else 0) + 1

/-- The kernel's `1 / √deg`. -/
def dinv {n : ℕ} (E : Mat n n) (j : Fin n) : EReal := Ideal.rsqrt (deg E j)

/-- The reference's: zero where the degree is not positive. -/
def dinvSafe {n : ℕ} (E : Mat n n) (j : Fin n) : EReal := if 0 < deg E j then Ideal.rsqrt (deg E j) else 0

/-- The convolution as the kernel states it, over the transformed nodes `H`: scale each node, sum over the edges into `j` and the self loop, scale by the target. -/
def convK {n m : ℕ} (E : Mat n n) (H : Mat n m) : Mat n m :=
  fun j d => dinv E j * ((∑ i, (dinv E i * H i d) * (if i < j then E i j else 0)) + dinv E j * H j d)

/-- The convolution as the reference states it: each edge's normalised weight times its source's row, summed over the edges into `j` and its self loop. -/
def convR {n m : ℕ} (E : Mat n n) (H : Mat n m) : Mat n m :=
  fun j d => (∑ i, if i < j then dinvSafe E i * E i j * dinvSafe E j * H i d else 0) + dinvSafe E j * 1 * dinvSafe E j * H j d

/-- The nodes after the convolution: `x + relu(conv + b)`. -/
def nodes {n m : ℕ} (X C : Mat n m) (b : Row m) : Mat n m := fun j d => X j d + max (C j d + b d) 0

/-- The scale both programs compute: one over the root of 256. -/
def scale : EReal := Ideal.div 1 (Ideal.sqrt 256)

/-- The logits, the query scaled before the product … -/
def logitsK {n m : ℕ} (q k : Mat n m) : Mat n n := fun i j => ∑ d, (q i d * scale) * k j d

/-- … and after it. -/
def logitsR {n m : ℕ} (q k : Mat n m) : Mat n n := fun i j => (∑ d, q i d * k j d) * scale

/-- The exponential of the logits less their row's maximum. -/
def probs {n : ℕ} (L : Mat n n) : Mat n n := fun i j => Ideal.exp (L i j - Finset.univ.sup (fun j => L i j))

/-- The attention's average of the values, divided after the sum … -/
def avgK {n m : ℕ} (P : Mat n n) (v : Mat n m) : Mat n m := fun i d => Ideal.div (∑ j, P i j * v j d) (∑ j, P i j)

/-- … and before it. -/
def avgR {n m : ℕ} (P : Mat n n) (v : Mat n m) : Mat n m := fun i d => ∑ j, Ideal.div (P i j) (∑ j', P i j') * v j d

/-- The kernel's result: the nodes after the convolution, then the attention with its output layer. -/
def outK {n m : ℕ} (E : Mat n n) (X : Mat n m) (W1 : Mat m m) (b1 : Row m) (Wq : Mat m m) (bq : Row m) (Wk : Mat m m) (bk : Row m) (Wv : Mat m m) (bv : Row m) (Wo : Mat m m) (bo : Row m) : Mat n m :=
  let x := nodes X (convK E (mm X W1)) b1
  lin (avgK (probs (logitsK (lin x Wq bq) (lin x Wk bk))) (lin x Wv bv)) Wo bo

/-- The reference's result, likewise. -/
def outR {n m : ℕ} (E : Mat n n) (X : Mat n m) (W1 : Mat m m) (b1 : Row m) (Wq : Mat m m) (bq : Row m) (Wk : Mat m m) (bk : Row m) (Wv : Mat m m) (bv : Row m) (Wo : Mat m m) (bo : Row m) : Mat n m :=
  let x := nodes X (convR E (mm X W1)) b1
  lin (avgR (probs (logitsR (lin x Wq bq) (lin x Wk bk))) (lin x Wv bv)) Wo bo

end Cert.Formulas

end

end
-- ==== Proof.Entries.lean ====
/-
  An array's entries, as the programs' operations index them, are those of its matrix or row.
-/
module

public import proofs.«01_k».proof.Proof.Formulas
public import Idealize.ShloMosaic.Lib.Pointwise
public import Idealize.ShloMosaic.Lib.Pointwise.IndexBridge

@[expose] public section

noncomputable section

namespace Cert.Entries

open Cert.Formulas Idealize.ShloMosaic

/-- The entry of an array of two axes at `i, j` is its matrix's. -/
theorem mat_at {n m : ℕ} (x : FVec Ideal ⟨2, ![n, m]⟩ .f32) (i : Fin n) (j : Fin m) : x (ix2 i j) = mat x i j := by
  rw [ix2_eq_valueIdx]; rfl

/-- The entry of an array of one axis at `i` is its row's. -/
theorem row_at {n : ℕ} (x : FVec Ideal ⟨1, ![n]⟩ .f32) (i : Fin n) : x (ix1 i) = row x i := by
  rw [ix1_eq_valueIdx]; rfl

end Cert.Entries
end
end
-- ==== Proof.Consts.lean ====
module

public import proofs.«01_k».proof.Proof.Formulas
public import Idealize.ShloMosaic.Lib.IdealHost

@[expose] public section

noncomputable section

/-! The float words the two programs write down, and the maximum of a row as a fold. -/

namespace Cert.Consts

open Idealize.ShloMosaic Cert.Formulas

/-- The word 0x43800000 is the number 256. -/
theorem word_256 : Ideal.ofBits FTy.f32 1132462080#32 = (256 : EReal) := by
  simp [Ideal.ofBits, Ideal.ieee]
  rw [← EReal.coe_mul, show (8388608 * (2 ^ 15)⁻¹ : ℝ) = 256 by norm_num]
  rfl

/-- The word 0xFF800000 is minus infinity. -/
theorem word_bot : Ideal.ofBits FTy.f32 4286578688#32 = (⊥ : EReal) := by
  simp [Ideal.ofBits, Ideal.ieee]

/-- The word 0x7F800000 is plus infinity. -/
theorem word_top : Ideal.ofBits FTy.f32 2139095040#32 = (⊤ : EReal) := by
  simp [Ideal.ofBits, Ideal.ieee]

/-- A fold of `max` from minus infinity over a whole axis is the axis's supremum. -/
theorem fold_max {n : ℕ} (f : Fin n → EReal) :
    Finset.fold max (⊥ : EReal) f Finset.univ = Finset.univ.sup f := rfl

end Cert.Consts
end
end
-- ==== Proof.KernelValue.lean ====
module

public import proofs.«01_k».proof.Proof.Gen.KernelIdeal.Skeleton
public import proofs.«01_k».proof.Proof.Gen.KernelIdeal
public import proofs.«01_k».proof.Proof.Entries
public import proofs.«01_k».proof.Proof.Consts
public import Idealize.ShloMosaic.Lib.WordCmp
public import Idealize.ShloMosaic.Lib.Pointwise
public import Idealize.ShloMosaic.Lib.Pointwise.IndexBridge

@[expose] public section

set_option maxRecDepth 16384

noncomputable section

/-! What the kernel's block computes, entry by entry. -/

namespace Cert.KernelValue

open Cert.KernelIdeal Cert.KernelIdeal.Gen Cert.Formulas Cert.Entries Cert.Consts Idealize.ShloMosaic

/-- The kernel’s scalar root is the root of an extended real. -/
theorem sqrt_eq (x : EReal) : (Scalar.sqrt (F := Ideal) (φ := .f32) x : EReal) = Ideal.sqrt x := rfl

/-- The kernel's mask keeps the entries strictly above the diagonal. -/
theorem masked_at (E : FVec Ideal S768x768 .f32) (i j : Fin 768) :
    (select (cmpi .slt (iota .tc S768x768 32 [0] iota_S768x768_d0_w32) (iota .tc S768x768 32 [1] iota_S768x768_d1_w32)) E
      (broadcast S768x768 (Scalar.ofBits (F := Ideal) .f32 0x00000000#32)) (ix2 i j) : EReal) = if i < j then mat E i j else 0 := by
  pointwise
  rw [WordCmp.cmpi_slt_ofNat (w := 32) (by omega) (by omega), WordCmp.select_decide, mat_at E]
  rfl

/-- The kernel's convolution from its masked edges. -/
def fromMask (v8 : FVec Ideal S768x256 .f32) (v10 : FVec Ideal S256x256 .f32) (v18 : FVec Ideal S768x768 .f32) (v34 : FVec Ideal S1x256 .f32) : FVec Ideal S768x256 .f32 :=
  let h := matmul dot_S768x256_S256x256_S768x256_1_0_0_1_n_n none (truncf .bf16 v8 bitsLt_bf16_f32) (truncf .bf16 v10 bitsLt_bf16_f32) (constant S768x256 .f32 0x00000000#32)
  let inv := shapeCast S768x1 (rsqrt (addf (shapeCast S1x768 (multiReduction .add [0] S768 v18 0x00000000#32 reduces_S768x768_S768 (.inl rfl) rfl) shapeCasts_S768_S1x768)
    (broadcast S1x768 (Scalar.ofBits .f32 0x3F800000#32)))) shapeCasts_S1x768_S768x1
  let y := mulf (broadcastTo S768x256 inv broadcasts_S768x1_S768x256) h
  let agg := transpose S768x256 [1, 0] (matmul dot_S768x256_S768x768_S256x768_0_0_1_1_n_n none (truncf .bf16 y bitsLt_bf16_f32) (truncf .bf16 v18 bitsLt_bf16_f32) (constant S256x768 .f32 0x00000000#32)) transposes_S256x768_p1_0_S768x256
  addf (mulf (broadcastTo S768x256 inv broadcasts_S768x1_S768x256) (addf agg y)) (broadcastTo S768x256 (shapeCast S1x256 v34 shapeCasts_S1x256_S1x256) broadcasts_S1x256_S768x256)

/-- The kernel’s convolution is `fromMask` of its masked edges. -/
theorem pay6_eq (X : FVec Ideal S768x256 .f32) (W : FVec Ideal S256x256 .f32) (E : FVec Ideal S768x768 .f32) (b : FVec Ideal S1x256 .f32) :
    k0_pay6 (F := Ideal) X W E b = fromMask X W (select (cmpi .slt (iota .tc S768x768 32 [0] iota_S768x768_d0_w32) (iota .tc S768x768 32 [1] iota_S768x768_d1_w32)) E
      (broadcast S768x768 (Scalar.ofBits (F := Ideal) .f32 0x00000000#32))) b := rfl

/-- Its value, once the masked edges are known. -/
theorem fromMask_at (X : FVec Ideal S768x256 .f32) (W : FVec Ideal S256x256 .f32) (E : Mat 768 768) (M : FVec Ideal S768x768 .f32) (b : FVec Ideal S1x256 .f32)
    (hM : ∀ i j, M (ix2 i j) = if i < j then E i j else 0) (i : Fin 768) (d : Fin 256) :
    (fromMask X W M b (ix2 i d) : EReal) = convK E (mm (mat X) (mat W)) i d + mat b 0 d := by
  pointwise [fromMask]
  simp only [mat_at] at hM
  simp only [mat_at, hM, convK, dinv, deg, mm]

/-- The convolution, before its relu. -/
theorem pay6_at (X : FVec Ideal S768x256 .f32) (W : FVec Ideal S256x256 .f32) (E : FVec Ideal S768x768 .f32) (b : FVec Ideal S1x256 .f32) (i : Fin 768) (d : Fin 256) :
    (k0_pay6 (F := Ideal) X W E b (ix2 i d) : EReal) = convK (mat E) (mm (mat X) (mat W)) i d + mat b 0 d := by
  rw [pay6_eq]
  exact fromMask_at X W (mat E) _ b (masked_at E) i d

/-- The attention over the nodes after the convolution, with the output product. -/
theorem pay7_at (wq wk wv wo : FVec Ideal S256x256 .f32) (X : FVec Ideal S768x256 .f32) (C : FVec Ideal S768x256 .f32) (bq bk bv : FVec Ideal S1x256 .f32) (x : Mat 768 256) (hx : ∀ i d, mat X i d + max (mat C i d) 0 = x i d) (i : Fin 768) (d : Fin 256) :
    (k0_pay7 (F := Ideal) (k0_pay2 wq) (k0_pay3 wk) (k0_pay4 wv) (k0_pay5 wo) X C (Scalar.ofBits .f32 0#32) bq bk bv (ix2 i d) : EReal) =
      mm (avgK (probs (logitsK (lin x (mat wq) (mat bq 0)) (lin x (mat wk) (mat bk 0)))) (lin x (mat wv) (mat bv 0))) (mat wo) i d := by
  pointwise [k0_pay7, k0_pay2, k0_pay3, k0_pay4, k0_pay5]
  simp only [mat_at, hx, word_256, word_bot, fold_max, sqrt_eq]
  simp only [avgK, probs, logitsK, lin, mm, scale]

/-- The whole block's value. -/
theorem block_at (E : FVec Ideal S768x768 .f32) (X : FVec Ideal S768x256 .f32) (W1 Wq Wk Wv Wo : FVec Ideal S256x256 .f32) (b1 bq bk bv bo : FVec Ideal S1x256 .f32) (i : Fin 768) (d : Fin 256) :
    (k0_pay1 (F := Ideal) (k0_pay7 (k0_pay2 Wq) (k0_pay3 Wk) (k0_pay4 Wv) (k0_pay5 Wo) X (k0_pay6 X W1 E b1) (Scalar.ofBits .f32 0#32) bq bk bv) bo (ix2 i d) : EReal) =
      outK (mat E) (mat X) (mat W1) (mat b1 0) (mat Wq) (mat bq 0) (mat Wk) (mat bk 0) (mat Wv) (mat bv 0) (mat Wo) (mat bo 0) i d := by
  have h (p : FVec Ideal S768x256 .f32) : (k0_pay1 (F := Ideal) p bo (ix2 i d) : EReal) = p (ix2 i d) + bo (ix2 0 d) := by pointwise [k0_pay1]
  rw [h, pay7_at Wq Wk Wv Wo X _ bq bk bv (nodes (mat X) (convK (mat E) (mm (mat X) (mat W1))) (mat b1 0))
    (fun i d => by rw [← mat_at (k0_pay6 X W1 E b1), pay6_at]; rfl), mat_at bo]
  rfl

end Cert.KernelValue
end
end
-- ==== Proof.KernelRun.lean ====
module

public import proofs.«01_k».proof.Proof.Gen.KernelIdeal.Value
public import proofs.«01_k».proof.Proof.KernelValue
public import Idealize.ShloMosaic.Lib.Pipeline.ValueKit
public import Idealize.ShloMosaic.Lib.Claim

@[expose] public section

set_option maxRecDepth 16384

noncomputable section

/-! What the kernel's result array holds after the run. -/

namespace Cert.KernelRun

open Cert.KernelIdeal Cert.KernelIdeal.Gen Cert.Formulas Idealize.ShloMosaic Idealize.ShloMosaic.TcCoe Idealize.SL.Sem

/-- The block's value as an array, from the arrays it reads. -/
def block (E : FVec Ideal S768x768 .f32) (X : FVec Ideal S768x256 .f32) (W1 : FVec Ideal S256x256 .f32) (b1 : FVec Ideal S1x256 .f32) (Wq : FVec Ideal S256x256 .f32) (bq : FVec Ideal S1x256 .f32) (Wk : FVec Ideal S256x256 .f32) (bk : FVec Ideal S1x256 .f32) (Wv : FVec Ideal S256x256 .f32) (bv : FVec Ideal S1x256 .f32) (Wo : FVec Ideal S256x256 .f32) (bo : FVec Ideal S1x256 .f32) : FVec Ideal S768x256 .f32 :=
  k0_pay1 (k0_pay7 (k0_pay2 Wq) (k0_pay3 Wk) (k0_pay4 Wv) (k0_pay5 Wo) X (k0_pay6 X W1 E b1) (Scalar.ofBits .f32 0#32) bq bk bv) bo

/-- The two-axis zero offset is the zero function. -/
theorem zero2 : (![0, 0] : Fin 2 → ℕ) = fun _ => 0 := by decide

/-- The kernel loads each block whole and stores its one result whole. -/
theorem out_eq (E : FVec Ideal S768x768 .f32) (X : FVec Ideal S768x256 .f32) (W1 : FVec Ideal S256x256 .f32) (b1 : FVec Ideal S1x256 .f32) (Wq : FVec Ideal S256x256 .f32) (bq : FVec Ideal S1x256 .f32) (Wk : FVec Ideal S256x256 .f32) (bk : FVec Ideal S1x256 .f32) (Wv : FVec Ideal S256x256 .f32) (bv : FVec Ideal S1x256 .f32) (Wo : FVec Ideal S256x256 .f32) (bo : FVec Ideal S1x256 .f32) :
    out0_12 (F := Ideal) E X W1 b1 Wq bq Wk bk Wv bv Wo bo = block E X W1 b1 Wq bq Wk bk Wv bv Wo bo := by
  unfold out0_12 block
  rw [View.canon_unit_zero (S := S768x256) zero2]
  simp only [View.ld_unit_zero (S := S256x256) zero2, View.ld_unit_zero (S := S768x256) zero2, View.ld_unit_zero (S := S768x768) zero2, View.ld_unit_zero (S := S1x256) zero2]

variable (m : (ℓ : Loc nD τ sig) → Buf (Elt Ideal) ℓ) (c : Dev nD) (t : Fin cfg0.N)

/-! The arguments as the launch finds them. -/
def argX : FVec Ideal S768x256 .f32 := m ((c : Thread nD τ).loc main_arg0)
def argE : FVec Ideal S768x768 .f32 := m ((c : Thread nD τ).loc main_arg1)
def argW1 : FVec Ideal S256x256 .f32 := m ((c : Thread nD τ).loc main_arg2)
def argB1 : FVec Ideal S256 .f32 := m ((c : Thread nD τ).loc main_arg3)
def argWq : FVec Ideal S256x256 .f32 := m ((c : Thread nD τ).loc main_arg4)
def argBq : FVec Ideal S256 .f32 := m ((c : Thread nD τ).loc main_arg5)
def argWk : FVec Ideal S256x256 .f32 := m ((c : Thread nD τ).loc main_arg6)
def argBk : FVec Ideal S256 .f32 := m ((c : Thread nD τ).loc main_arg7)
def argWv : FVec Ideal S256x256 .f32 := m ((c : Thread nD τ).loc main_arg8)
def argBv : FVec Ideal S256 .f32 := m ((c : Thread nD τ).loc main_arg9)
def argWo : FVec Ideal S256x256 .f32 := m ((c : Thread nD τ).loc main_arg10)
def argBo : FVec Ideal S256 .f32 := m ((c : Thread nD τ).loc main_arg11)

/-! Each window's one block is its whole array; the biases' arrays are the biases as one row. -/

/-- The window on the edges starts at the origin. -/
theorem ix0 : ∀ t, win0_0.index t = ![0, 0] := by decide +kernel

/-- The window on the nodes starts at the origin. -/
theorem ix1 : ∀ t, win0_1.index t = ![0, 0] := by decide +kernel

/-- The window on the first weights starts at the origin. -/
theorem ix2 : ∀ t, win0_2.index t = ![0, 0] := by decide +kernel

/-- The window on the first bias starts at the origin. -/
theorem ix3 : ∀ t, win0_3.index t = ![0, 0] := by decide +kernel

/-- The window on the query weights starts at the origin. -/
theorem ix4 : ∀ t, win0_4.index t = ![0, 0] := by decide +kernel

/-- The window on the query bias starts at the origin. -/
theorem ix5 : ∀ t, win0_5.index t = ![0, 0] := by decide +kernel

/-- The window on the key weights starts at the origin. -/
theorem ix6 : ∀ t, win0_6.index t = ![0, 0] := by decide +kernel

/-- The window on the key bias starts at the origin. -/
theorem ix7 : ∀ t, win0_7.index t = ![0, 0] := by decide +kernel

/-- The window on the value weights starts at the origin. -/
theorem ix8 : ∀ t, win0_8.index t = ![0, 0] := by decide +kernel

/-- The window on the value bias starts at the origin. -/
theorem ix9 : ∀ t, win0_9.index t = ![0, 0] := by decide +kernel

/-- The window on the output weights starts at the origin. -/
theorem ix10 : ∀ t, win0_10.index t = ![0, 0] := by decide +kernel

/-- The window on the output bias starts at the origin. -/
theorem ix11 : ∀ t, win0_11.index t = ![0, 0] := by decide +kernel

/-- The block read of the edges is the whole array. -/
theorem blk0 : iblk m c 0 t = argE m c := by
  unfold argE
  funext y
  rw [← V_main_arg1 m c]
  blk_ext [iblk, ix0 t]

/-- The block read of the nodes is the whole array. -/
theorem blk1 : iblk m c 1 t = argX m c := by
  unfold argX
  funext y
  rw [← V_main_arg0 m c]
  blk_ext [iblk, ix1 t]

/-- The block read of the first weights is the whole array. -/
theorem blk2 : iblk m c 2 t = argW1 m c := by
  unfold argW1
  funext y
  rw [← V_main_arg2 m c]
  blk_ext [iblk, ix2 t]

/-- The block read of the first bias is the whole array, as one row. -/
theorem blk3 : iblk m c 3 t = shapeCast S1x256 (argB1 m c) shapeCasts_S256_S1x256 := by
  funext y
  unfold argB1
  blk_simp [iblk]
  entry_read
  show shapeCast S1x256 _ _ _ = shapeCast S1x256 _ _ _
  blk_ext [iblk, ix3 t]

/-- The block read of the query weights is the whole array. -/
theorem blk4 : iblk m c 4 t = argWq m c := by
  unfold argWq
  funext y
  rw [← V_main_arg4 m c]
  blk_ext [iblk, ix4 t]

/-- The block read of the query bias is the whole array, as one row. -/
theorem blk5 : iblk m c 5 t = shapeCast S1x256 (argBq m c) shapeCasts_S256_S1x256 := by
  funext y
  unfold argBq
  blk_simp [iblk]
  entry_read
  show shapeCast S1x256 _ _ _ = shapeCast S1x256 _ _ _
  blk_ext [iblk, ix5 t]

/-- The block read of the key weights is the whole array. -/
theorem blk6 : iblk m c 6 t = argWk m c := by
  unfold argWk
  funext y
  rw [← V_main_arg6 m c]
  blk_ext [iblk, ix6 t]

/-- The block read of the key bias is the whole array, as one row. -/
theorem blk7 : iblk m c 7 t = shapeCast S1x256 (argBk m c) shapeCasts_S256_S1x256 := by
  funext y
  unfold argBk
  blk_simp [iblk]
  entry_read
  show shapeCast S1x256 _ _ _ = shapeCast S1x256 _ _ _
  blk_ext [iblk, ix7 t]

/-- The block read of the value weights is the whole array. -/
theorem blk8 : iblk m c 8 t = argWv m c := by
  unfold argWv
  funext y
  rw [← V_main_arg8 m c]
  blk_ext [iblk, ix8 t]

/-- The block read of the value bias is the whole array, as one row. -/
theorem blk9 : iblk m c 9 t = shapeCast S1x256 (argBv m c) shapeCasts_S256_S1x256 := by
  funext y
  unfold argBv
  blk_simp [iblk]
  entry_read
  show shapeCast S1x256 _ _ _ = shapeCast S1x256 _ _ _
  blk_ext [iblk, ix9 t]

/-- The block read of the output weights is the whole array. -/
theorem blk10 : iblk m c 10 t = argWo m c := by
  unfold argWo
  funext y
  rw [← V_main_arg10 m c]
  blk_ext [iblk, ix10 t]

/-- The block read of the output bias is the whole array, as one row. -/
theorem blk11 : iblk m c 11 t = shapeCast S1x256 (argBo m c) shapeCasts_S256_S1x256 := by
  funext y
  unfold argBo
  blk_simp [iblk]
  entry_read
  show shapeCast S1x256 _ _ _ = shapeCast S1x256 _ _ _
  blk_ext [iblk, ix11 t]

/-- The result array is what the one grid step stores: the block of the twelve blocks it reads. -/
theorem arr12 : (dats m 0 c).arrAt 12 cfg0.N = block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  refine (dats m 0 c).arrAt_eq_of_after_last 12 t (by revert t; decide +kernel) _ fun j => ?_
  blk_simp
  rw [after0_12]
  rw [out_eq]

/-- A bias as one row reads the bias. -/
theorem bias_row (b : FVec Ideal S256 .f32) : mat (shapeCast S1x256 b shapeCasts_S256_S1x256 : FVec Ideal S1x256 .f32) 0 = row b := by
  funext d
  show (shapeCast S1x256 b shapeCasts_S256_S1x256 : FVec Ideal S1x256 .f32) (ValueIdx.ix2 0 d) = b (ValueIdx.ix1 d)
  rw [← ix2_eq_valueIdx, ← ix1_eq_valueIdx]
  pointwise

/-- The kernel's result array, entry by entry: the formula `outK` of its arguments. -/
theorem out_at (i : Fin 768) (d : Fin 256) : (((dats m 0 c).arrAt 12 cfg0.N : FVec Ideal S768x256 .f32) (Idealize.ShloMosaic.ix2 i d) : EReal) =
    outK (mat (argE m c)) (mat (argX m c)) (mat (argW1 m c)) (row (argB1 m c)) (mat (argWq m c)) (row (argBq m c)) (mat (argWk m c)) (row (argBk m c)) (mat (argWv m c)) (row (argBv m c)) (mat (argWo m c)) (row (argBo m c)) i d := by
  rw [arr12 m c t0_0, blk0, blk1, blk2, blk3, blk4, blk5, blk6, blk7, blk8, blk9, blk10, blk11]
  unfold block
  refine (KernelValue.block_at _ _ _ _ _ _ _ _ _ _ _ _ i d).trans ?_
  simp only [bias_row]

end Cert.KernelRun
end
end
-- ==== Proof.Pairs.lean ====
/-
  The positions of the strictly upper triangle of a `W × W` matrix, in row-major order: `jnp.triu_indices(W, k=1)` as plain arithmetic over the natural numbers.
-/
module

public import Idealize.ShloMosaic.Lib.Routing.Count
public import Mathlib.Algebra.BigOperators.Fin
public import Mathlib.Algebra.BigOperators.Intervals
public import Mathlib.Data.Fintype.BigOperators

@[expose] public section

namespace Cert.Pairs

open Idealize.ShloMosaic.Routing

/-- Row-major position `q` of a matrix of width `W` lies strictly above the diagonal. -/
def Above (W q : ℕ) : Prop := q / W < q % W

instance (W : ℕ) : DecidablePred (Above W) := fun q => Nat.decLt (q / W) (q % W)

/-- The row-major position of the `p`-th pair: the number of positions up to which at most `p` lie above the diagonal. -/
def pos (W p : ℕ) : ℕ := Nat.count (fun i => Nat.count (Above W) (i + 1) ≤ p) (W * W)

/-- The number of pairs `i < j` below `W`. -/
def num (W : ℕ) : ℕ := Nat.count (Above W) (W * W)

/-- The list of the positions above the diagonal, in increasing order. -/
def positions (W : ℕ) : List ℕ := (List.range (W * W)).filter fun q => decide (Above W q)

/-- There are as many positions above the diagonal as the count says. -/
theorem length_positions (W : ℕ) : (positions W).length = num W := length_filter_range (Above W) (W * W)

/-- The `p`-th of them is at `pos W p`. -/
theorem getElem_positions (W p : ℕ) (hp : p < (positions W).length) : (positions W)[p] = pos W p := by
  have h : (positions W).getD p 0 = pos W p := getD_filter_range (Above W) (W * W) p (by rw [← length_filter_range]; exact hp)
  rwa [List.getD_eq_getElem?_getD, List.getElem?_eq_getElem hp, Option.getD_some] at h

/-- The position of the `p`-th pair is in the list. -/
theorem pos_mem (W p : ℕ) (hp : p < num W) : pos W p ∈ positions W := by
  have h : p < (positions W).length := by rw [length_positions]; exact hp
  rw [← getElem_positions W p h]
  exact List.getElem_mem h

/-- The `p`-th position is one of the matrix, … -/
theorem pos_lt (W p : ℕ) (hp : p < num W) : pos W p < W * W := List.mem_range.1 (List.mem_filter.1 (pos_mem W p hp)).1

/-- … and it lies above the diagonal. -/
theorem pos_above (W p : ℕ) (hp : p < num W) : Above W (pos W p) := of_decide_eq_true (List.mem_filter.1 (pos_mem W p hp)).2

/-- A sum over the pairs is the sum over the positions of the matrix that lie above the diagonal. -/
theorem sum_pos {M : Type*} [AddCommMonoid M] (W : ℕ) (g : ℕ → M) :
    ∑ p : Fin (num W), g (pos W p.val) = ∑ q ∈ (Finset.range (W * W)).filter (Above W), g q := by
  have h1 : ∑ p : Fin (num W), g (pos W p.val) = ∑ p : Fin (positions W).length, g (positions W)[p.val] := by
    refine Fintype.sum_equiv (finCongr (length_positions W).symm) _ _ fun p => ?_
    exact congrArg g (getElem_positions W p.val (by rw [length_positions]; exact p.isLt)).symm
  rw [h1, ← List.sum_ofFn (f := fun p : Fin (positions W).length => g (positions W)[p.val])]
  have h2 : List.ofFn (fun p : Fin (positions W).length => g (positions W)[p.val]) = (positions W).map g := by
    refine (List.ofFn_congr rfl _).trans ?_
    exact List.ofFn_getElem_eq_map (positions W) g
  rw [h2]
  have hnd : (positions W).Nodup := List.nodup_range.filter _
  have h3 : (positions W).toFinset = (Finset.range (W * W)).filter (Above W) := by
    ext q
    simp [positions]
  rw [← h3, List.sum_toFinset g hnd]

/-- A sum over the row-major positions of the matrix is the sum over its rows and columns. -/
theorem sum_matrix {M : Type*} [AddCommMonoid M] (W : ℕ) (g : ℕ → M) :
    ∑ q ∈ Finset.range (W * W), g q = ∑ i : Fin W, ∑ j : Fin W, g (j.val + W * i.val) := by
  rw [← Fin.sum_univ_eq_sum_range g (W * W), ← Fintype.sum_prod_type', ← Equiv.sum_comp finProdFinEquiv]
  rfl

/-- So a sum over the pairs is the sum over all `(i, j)` with the terms on and below the diagonal left out. -/
theorem sum_pairs {M : Type*} [AddCommMonoid M] (W : ℕ) (g : ℕ → ℕ → M) :
    ∑ p : Fin (num W), g (pos W p.val / W) (pos W p.val % W) = ∑ i : Fin W, ∑ j : Fin W, if i.val < j.val then g i.val j.val else 0 := by
  rw [sum_pos W fun q => g (q / W) (q % W), Finset.sum_filter, sum_matrix]
  refine Finset.sum_congr rfl fun i _ => Finset.sum_congr rfl fun j _ => ?_
  have hW : 0 < W := lt_of_le_of_lt (Nat.zero_le _) j.isLt
  have hd : (j.val + W * i.val) / W = i.val := by
    rw [Nat.add_mul_div_left _ _ hW, Nat.div_eq_of_lt j.isLt, Nat.zero_add]
  have hm : (j.val + W * i.val) % W = j.val := by
    rw [Nat.add_mul_mod_self_left, Nat.mod_eq_of_lt j.isLt]
  have ha : Above W (j.val + W * i.val) ↔ i.val < j.val := by
    unfold Above
    rw [hd, hm]
  rw [if_congr ha rfl rfl, hd, hm]

/-- Twice the number of the pairs is `W (W - 1)`. -/
theorem num_two (W : ℕ) : num W * 2 = W * (W - 1) := by
  have h := sum_pairs W (fun _ _ => 1)
  rw [Finset.sum_const, Finset.card_univ, Fintype.card_fin, smul_eq_mul, Nat.mul_one] at h
  rw [h, Finset.sum_comm]
  have hj : ∀ j : Fin W, (∑ i : Fin W, if i.val < j.val then 1 else 0) = j.val := fun j => by
    rw [Finset.sum_boole, Fin.card_filter_val_lt, Nat.cast_id, Nat.min_eq_right j.isLt.le]
  rw [Finset.sum_congr rfl fun j _ => hj j, Fin.sum_univ_eq_sum_range (fun j => j) W, Finset.sum_range_id_mul_two]

/-- There are 294528 pairs below 768. -/
theorem num_768 : num 768 = 294528 := by
  have := num_two 768
  omega

end Cert.Pairs

end
-- ==== Proof.IndexOps.lean ====
/-
  The host's scatters and gathers by index words that this reference uses, read at an entry, at any sizes: an integer histogram with more updates than entries, the accumulating
  float scatters into a vector and into the rows of a matrix (exact sums at the ideal instance), and a gather of single cells of a matrix by two columns of index words.
-/
module

public import Idealize.ShloMosaic.Lib.Routing.Ops
public import Idealize.ShloMosaic.Lib.Routing.OpsPair
public import Idealize.ShloMosaic.Lib.ValueIdx
public import Idealize.ShloMosaic.Lib.ValueIdxRank1
public import Idealize.ShloMosaic.PureOps.Ideal

@[expose] public section

noncomputable section

namespace Cert.IndexOps

open Idealize.ShloMosaic Idealize.ShloMosaic.ValueIdx Idealize.ShloMosaic.Routing

/-- Every coordinate of a one-axis index is its only one. -/
theorem val_ix1 {n : ℕ} (i : Fin n) (X : Fin 1) : (ix1 i X).val = i.val := by
  obtain rfl : X = 0 := Subsingleton.elim _ _
  rfl

section Vec
variable {N M : ℕ} (d : ScatterDims (shape1 N) (shape2 M 1) (shape1 M)) (hiw : d.insertedWindowDims = [0])
  (hsd : d.scatterDimsToOperandDims = [0]) (hivd : d.indexVectorDim = 1)
include hiw hsd hivd

/-- Update `i` of a scatter of `M` scalars into a vector, one index word each, lands at `x` exactly when its word, read signed, is `x`. -/
theorem lands_vec (idx : IVec (shape2 M 1) 32) (i : Fin M) (x : Fin N) :
    d.resultIdx? (ix1 i) idx = some (ix1 x) ↔ (idx (ix2 i (0 : Fin 1))).toInt = (x.val : ℤ) := by
  have hm : (0 : Fin 1) ∈ d.scatterDimsToOperandDims := by rw [hsd]; simp
  have hwin : d.window (ix1 i) 0 = 0 := by
    unfold ScatterDims.window
    rw [dif_neg fun h => (of_decide_eq_true (List.mem_filter.1 h).2) (by rw [hiw]; exact List.mem_singleton.2 rfl)]
  have hsi : d.siIdx (ix1 i) ⟨d.scatterDimsToOperandDims.idxOf 0, List.idxOf_lt_length_iff.2 hm⟩ = ix2 i (0 : Fin 1) := by
    funext b
    apply Fin.ext
    match b with
    | ⟨0, _⟩ =>
      unfold ScatterDims.siIdx
      rw [dif_neg (by rw [hivd]; exact Nat.zero_ne_one)]
      unfold ScatterDims.siCoord
      exact val_ix1 i _
    | ⟨1, _⟩ =>
      unfold ScatterDims.siIdx
      rw [dif_pos (by rw [hivd])]
      show List.idxOf (0 : Fin 1) d.scatterDimsToOperandDims = 0
      rw [hsd]; simp
  have hstart : d.start (ix1 i) idx 0 = (idx (ix2 i (0 : Fin 1))).toInt := by
    unfold ScatterDims.start
    rw [dif_pos hm, hsi]
  rw [resultIdx?_ix1, hstart, hwin]
  simp

variable (gi : ℕ → ℕ) (idx : IVec (shape2 M 1) 32) (hg : ∀ i : Fin M, idx (ix2 i (0 : Fin 1)) = BitVec.ofNat 32 (gi i.val))
  (hg31 : ∀ i : Fin M, gi i.val < 2 ^ 31)
include hg hg31

/-- The same where the word is that of a natural number below 2³¹. -/
theorem lands_vec_nat (i : Fin M) (x : Fin N) : d.resultIdx? (ix1 i) idx = some (ix1 x) ↔ gi i.val = x.val := by
  rw [lands_vec d hiw hsd hivd, hg, StableHlo.Predicate.toInt_ofNat_small _ (hg31 i)]
  omega

/-- `zeros(N).at[idx].add(1)` over `M` indices, read at entry `x`: how many of them are `x`. -/
theorem hist (x0 : IVec (shape1 N) 32) (hx0 : ∀ i, x0 i = 0#32) (upd : IVec (shape1 M) 32) (hupd : ∀ i, upd i = 1#32) (x : Fin N) :
    Host.scatter d IntOp.addi x0 idx upd (ix1 x) = BitVec.ofNat 32 (Nat.count (fun i => gi i = x.val) M) := by
  have hl : ∀ n : Fin (shape1 M).numel, d.resultIdx? ((shape1 M).rowMajor.symm n) idx = some (ix1 x) ↔ gi n.val = x.val := fun n => by
    rw [symm1]
    exact lands_vec_nat d hiw hsd hivd gi idx hg hg31 (n.cast (numel1 M)) x
  rw [scatter_at, hx0]
  have h := foldl_addi_ofNat (List.finRange (shape1 M).numel) (fun n => BitVec.ofNat 32 (if gi n.val = x.val then 1 else 0))
    (fun n => if gi n.val = x.val then 1 else 0) (fun _ _ => rfl) 0#32 0 rfl
  rw [Nat.zero_add, map_finRange_val _ (fun n => if gi n = x.val then 1 else 0), sum_map_ite (fun n => gi n = x.val)] at h
  refine (List.foldl_ext _ _ _ fun a n _ => ?_).trans (h.trans (congrArg (fun k => BitVec.ofNat 32 (Nat.count (fun n => gi n = x.val) k)) (numel1 M)))
  by_cases e : gi n.val = x.val
  · rw [if_pos ((hl n).2 e), hupd, if_pos e]
  · rw [if_neg fun q => e ((hl n).1 q), if_neg e]
    show a = a + BitVec.ofNat 32 0
    simp

/-- The accumulating float scatter into a vector, read at entry `x` at the ideal instance: the operand's entry plus the sum of the updates whose index is `x`. -/
theorem scatterAdd_vec {φ : FTy} (x0 : FVec Ideal (shape1 N) φ) (upd : FVec Ideal (shape1 M) φ) (x : Fin N) :
    Host.scatterAdd d x0 idx upd (ix1 x) = (x0 (ix1 x) + ∑ i : Fin M, if gi i.val = x.val then upd (ix1 i) else 0 : EReal) := by
  show Ideal.hostScatterAdd d x0 idx upd (ix1 x) = _
  unfold Ideal.hostScatterAdd
  rw [Finset.sum_filter, ← Equiv.sum_comp (idxEquiv1 (n := M)).symm]
  refine congrArg (fun t : EReal => (x0 (ix1 x) : EReal) + t) (Finset.sum_congr rfl fun i _ => ?_)
  exact if_congr (lands_vec_nat d hiw hsd hivd gi idx hg hg31 i x) rfl rfl

end Vec

section Rows
variable {N M B : ℕ} (d : ScatterDims (shape2 N B) (shape2 M 1) (shape2 M B)) (huw : d.updateWindowDims = [1]) (hiw : d.insertedWindowDims = [0])
  (hsd : d.scatterDimsToOperandDims = [0]) (hivd : d.indexVectorDim = 1)
include huw hiw hsd hivd

/-- Entry `y` of update row `i`, of a scatter of `M` rows into the rows of a matrix, lands at `(x, y')` exactly when the row's index word, read signed, is `x` and `y = y'`. -/
theorem lands_rows (idx : IVec (shape2 M 1) 32) (i : Fin M) (y : Fin B) (x : Fin N) (y' : Fin B) :
    d.resultIdx? (ix2 i y) idx = some (ix2 x y') ↔ (idx (ix2 i (0 : Fin 1))).toInt = (x.val : ℤ) ∧ y = y' := by
  have hm : (0 : Fin 2) ∈ d.scatterDimsToOperandDims := by rw [hsd]; simp
  have hkept : d.sKept = [1] := by
    show (shape2 N B).kept d.insertedWindowDims = _
    rw [hiw]
    rfl
  have hu0 : ∀ k ∈ d.uScatter, k = (0 : Fin 2) := fun k hk => by
    have hk' : k ∉ d.updateWindowDims := of_decide_eq_true (List.mem_filter.1 hk).2
    rw [huw] at hk'
    have h1 : k.val ≠ 1 := fun e => hk' (List.mem_singleton.2 (Fin.ext e))
    have h2 : k.val < 2 := k.isLt
    exact Fin.ext (by show k.val = 0; omega)
  have hu1 : ∀ k ∈ d.updateWindowDims, k = (1 : Fin 2) := fun k hk => by rw [huw] at hk; exact List.mem_singleton.1 hk
  have e0 : ∀ X : Fin 2, X = 0 → (ix2 i y X).val = i.val := fun X h => by subst h; rfl
  have e1 : ∀ X : Fin 2, X = 1 → (ix2 i y X).val = y.val := fun X h => by subst h; rfl
  have hwin0 : d.window (ix2 i y) 0 = 0 := by
    unfold ScatterDims.window
    rw [dif_neg fun h => (of_decide_eq_true (List.mem_filter.1 h).2) (by rw [hiw]; exact List.mem_singleton.2 rfl)]
  have hwin1 : d.window (ix2 i y) 1 = y.val := by
    unfold ScatterDims.window
    rw [dif_pos (by rw [hkept]; simp)]
    exact e1 _ (hu1 _ (List.getElem_mem _))
  have hsi : d.siIdx (ix2 i y) ⟨d.scatterDimsToOperandDims.idxOf 0, List.idxOf_lt_length_iff.2 hm⟩ = ix2 i (0 : Fin 1) := by
    funext b
    apply Fin.ext
    match b with
    | ⟨0, _⟩ =>
      unfold ScatterDims.siIdx
      rw [dif_neg (by rw [hivd]; exact Nat.zero_ne_one)]
      unfold ScatterDims.siCoord
      exact e0 _ (hu0 _ (List.getElem_mem _))
    | ⟨1, _⟩ =>
      unfold ScatterDims.siIdx
      rw [dif_pos (by rw [hivd])]
      show List.idxOf (0 : Fin 2) d.scatterDimsToOperandDims = 0
      rw [hsd]; simp
  have hstart0 : d.start (ix2 i y) idx 0 = (idx (ix2 i (0 : Fin 1))).toInt := by
    unfold ScatterDims.start
    rw [dif_pos hm, hsi]
  have hstart1 : d.start (ix2 i y) idx 1 = 0 := by
    unfold ScatterDims.start
    exact dif_neg (one_not_mem _ hsd)
  rw [resultIdx?_ix2, hstart0, hwin0, hstart1, hwin1, Fin.ext_iff]
  omega

/-- The accumulating float scatter of rows, read at entry `(x, y)` at the ideal instance: the operand's entry plus the sum of entry `y` of the update rows whose index is `x`. -/
theorem scatterAdd_rows {φ : FTy} (gi : ℕ → ℕ) (idx : IVec (shape2 M 1) 32) (hg : ∀ i : Fin M, idx (ix2 i (0 : Fin 1)) = BitVec.ofNat 32 (gi i.val))
    (hg31 : ∀ i : Fin M, gi i.val < 2 ^ 31) (x0 : FVec Ideal (shape2 N B) φ) (upd : FVec Ideal (shape2 M B) φ) (x : Fin N) (y : Fin B) :
    Host.scatterAdd d x0 idx upd (ix2 x y) = (x0 (ix2 x y) + ∑ i : Fin M, if gi i.val = x.val then upd (ix2 i y) else 0 : EReal) := by
  show Ideal.hostScatterAdd d x0 idx upd (ix2 x y) = _
  unfold Ideal.hostScatterAdd
  rw [Finset.sum_filter, sum_idx2]
  refine congrArg (fun t : EReal => (x0 (ix2 x y) : EReal) + t) (Finset.sum_congr rfl fun i _ => ?_)
  have hl : ∀ b : Fin B, d.resultIdx? (ix2 i b) idx = some (ix2 x y) ↔ gi i.val = x.val ∧ b = y := fun b => by
    rw [lands_rows d huw hiw hsd hivd, hg, StableHlo.Predicate.toInt_ofNat_small _ (hg31 i)]
    omega
  rw [Finset.sum_congr rfl fun b _ => if_congr (hl b) rfl rfl]
  by_cases e : gi i.val = x.val
  · simp [e]
  · simp [e]

end Rows

/-- `table[row, col]` of single cells of an `[A, B]` table: where the two index words at `p` are those of `a < A` and `b < B`, entry `p` of the result is the table's entry `(a, b)`. -/
theorem gather_cell {α : Type} {A B n : ℕ} (d : GatherDims (shape2 A B) (shape2 n 2) (shape1 n)) (hoff : d.offsetDims = [])
    (hcoll : d.collapsedSliceDims = [0, 1]) (hob : d.operandBatchingDims = []) (hsim : d.startIndexMap = [0, 1]) (hivd : d.indexVectorDim = 1)
    (x : (shape2 A B).Idx → α) (idx : IVec (shape2 n 2) 32) (p : Fin n) (a : Fin A) (b : Fin B) (hA : A < 2 ^ 31) (hB : B < 2 ^ 31)
    (ha : idx (ix2 p (0 : Fin 2)) = BitVec.ofNat 32 a.val) (hb : idx (ix2 p (1 : Fin 2)) = BitVec.ofNat 32 b.val) :
    Host.gather d x idx (ix1 p) = x (ix2 a b) := by
  have hm : ∀ q : Fin 2, q ∈ d.startIndexMap := fun q => by rw [hsim]; fin_cases q <;> simp
  have hc : ∀ q : Fin 2, q ∈ d.collapsedSliceDims := fun q => by rw [hcoll]; fin_cases q <;> simp
  have hsi : ∀ q : Fin 2, d.siIdx (ix1 p) ⟨d.startIndexMap.idxOf q, List.idxOf_lt_length_iff.2 (hm q)⟩ = ix2 p q := fun q => by
    funext b'
    apply Fin.ext
    match b' with
    | ⟨0, _⟩ =>
      unfold GatherDims.siIdx
      rw [dif_neg (by rw [hivd]; exact Nat.zero_ne_one)]
      unfold GatherDims.siCoord
      exact val_ix1 p _
    | ⟨1, _⟩ =>
      unfold GatherDims.siIdx
      rw [dif_pos (by rw [hivd])]
      show List.idxOf q d.startIndexMap = q.val
      rw [hsim]
      fin_cases q <;> rfl
  have hcoord : ∀ (q : Fin 2) (k : ℕ), k < 2 ^ 31 → k < (shape2 A B).size q → idx (ix2 p q) = BitVec.ofNat 32 k →
      (d.operandIdx (ix1 p) idx q).val = k := fun q k hk hkA hq => by
    have hsl : d.sliceSizes q = 1 := d.slice_collapsed q (hc q)
    have hns : q ∉ d.sKept := fun h => ((d.mem_sKept q).1 h).1 (hc q)
    show d.start (ix1 p) idx q + d.batchCoord (ix1 p) q + d.offCoord (ix1 p) q = k
    rw [d.batchCoord_eq_zero _ _ (by rw [hob]; exact List.not_mem_nil), d.offCoord_eq_zero _ _ hns]
    unfold GatherDims.start
    rw [dif_pos (hm q), hsi, hq, hsl, StableHlo.Predicate.toInt_ofNat_small _ hk]
    omega
  unfold Host.gather
  refine congrArg x (funext fun q => Fin.ext ?_)
  match q with
  | ⟨0, _⟩ => exact hcoord 0 a.val (by omega) a.isLt ha
  | ⟨1, _⟩ => exact hcoord 1 b.val (by omega) b.isLt hb

end Cert.IndexOps

end

end
-- ==== Proof.RefIndices.lean ====
/-
  What the reference's `triu_indices` computes: its flat positions are those of the entries strictly above the diagonal in row-major order, its two index vectors their rows
  and columns.
-/
module

public import proofs.«01_k».proof.Proof.Gen.ReferenceIdeal.Run
public import proofs.«01_k».proof.Proof.Pairs
public import proofs.«01_k».proof.Proof.IndexOps
public import Idealize.ShloMosaic.Lib.Routing.Model
public import Idealize.ShloMosaic.Lib.Routing.Words
public import Idealize.ShloMosaic.Lib.WordCmp
public import Idealize.ShloMosaic.Lib.IdealHost
public import Idealize.ShloMosaic.Lib.Tactic.CleanTypes

@[expose] public section

noncomputable section

namespace Cert.RefIndices

open Cert.ReferenceIdeal Cert.ReferenceIdeal.Gen Cert.ReferenceIdeal.Value Cert.Pairs Cert.IndexOps
open Idealize.ShloMosaic Idealize.ShloMosaic.ValueIdx Idealize.ShloMosaic.Routing Idealize.ShloMosaic.WordCmp Idealize.ShloMosaic.StableHlo

/-- The contents the reference's operations read. -/
abbrev Vals := Valuation τ sig (Elt Ideal)

/-- `where(k < 0, k + n, k)` of a vector of words leaves an entry that is the word of a number below 2³¹. -/
theorem wrapped {n : ℕ} (hb : shape0.BroadcastsInDim (shape1 n) (![] : Fin 0 → Fin (shape1 n).rank)) (x : IVec (shape1 n) 32) (b : BitVec 32) (i : (shape1 n).Idx) {k : ℕ}
    (hx : x i = BitVec.ofNat 32 k) (hk : k < 2 ^ 31) :
    select (cmpi .slt x (broadcastInDim (shape1 n) ![] hb (constantI shape0 32 0#32))) (addi x (broadcastInDim (shape1 n) ![] hb (constantI shape0 32 b))) x i
      = BitVec.ofNat 32 k := by
  rw [select_at, cmpi_at, bc0, constantI_at, wrap_of_lt _ _ (by rw [hx, BitVec.toNat_ofNat]; omega), hx]

/-- A select whose condition is the zero bit gives its second branch. -/
theorem select_zero {α : Type} (a b : α) : Scalar.select 0#1 a b = b := rfl

/-- The mask `triu(ones, 1) != 0`, flattened: set exactly above the diagonal. -/
theorem mask_at (V : Vals) (q : Fin 589824) : res_main_v4 V (ix1 q) = BitVec.ofBool (decide (Above 768 q.val)) := by
  have hr : q.val / 768 < 768 := by have := q.isLt; omega
  have hc : q.val % 768 < 768 := Nat.mod_lt _ (by decide)
  unfold res_main_v4
  show Ideal.cmp .une (shapeCast (shape1 589824) _ _ (ix1 q)) (Ideal.ofBits .f32 0x00000000#32) = _
  rw [cast21 (a := 768) (b := 768) _ _ ⟨q.val / 768, hr⟩ ⟨q.val % 768, hc⟩ q (by show q.val = q.val / 768 * 768 + q.val % 768; omega)]
  rw [select_at, cmpi_at]
  show Ideal.cmp .une (Scalar.select (IntOp.cmpi .sge (BitVec.ofNat 32 (q.val / 768) + 0#32) (BitVec.ofNat 32 (q.val % 768))) (Ideal.ofBits .f32 0x00000000#32)
    (Ideal.ofBits .f32 0x3F800000#32)) _ = _
  rw [BitVec.add_zero, cmpi_sge_ofNat (w := 32) (by omega) (by omega), select_decide, Ideal.ofBits_zero_f32, Ideal.ofBits_one_f32]
  by_cases h : q.val % 768 ≤ q.val / 768
  · rw [if_pos h, decide_eq_false (p := Above 768 q.val) (Nat.not_lt.2 h)]
    simp [Ideal.cmp]
  · rw [if_neg h, decide_eq_true (p := Above 768 q.val) (Nat.not_le.1 h)]
    simp [Ideal.cmp]

/-- A scalar broadcast through a vector of one entry reads the scalar. -/
theorem bc_one {n : ℕ} {α : Type} (h₀ : shape0.BroadcastsInDim (shape1 1) (![] : Fin 0 → Fin (shape1 1).rank))
    (h₁ : (shape1 1).BroadcastsInDim (shape1 n) (![0] : Fin 1 → Fin (shape1 n).rank)) (v : shape0.Idx → α) (j : (shape1 n).Idx) :
    broadcastInDim (shape1 n) ![0] h₁ (broadcastInDim (shape1 1) ![] h₀ v) j = v ix0 := by
  unfold broadcastInDim
  exact congrArg v (funext fun a => a.elim0)

/-- The mask as words 0 and 1. -/
theorem mask_word (V : Vals) (q : Fin 589824) : extui 32 (res_main_v4 V) natLt_1_32 (ix1 q) = BitVec.ofNat 32 (if Above 768 q.val then 1 else 0) := by
  show (res_main_v4 V (ix1 q)).setWidth 32 = _
  rw [mask_at, setWidth_ofBool]

/-- Its running count. -/
theorem running (V : Vals) (q : Fin 589824) : res_main_v5 V (ix1 q) = BitVec.ofNat 32 (Nat.count (Above 768) (q.val + 1)) := by
  unfold res_main_v5
  refine (cumsum1 (N := 589824) (Nm1 := 589823) rfl _ (fun i => if Above 768 i then 1 else 0) (fun i => mask_word V i) _ ?_ _ _ q).trans ?_
  · rw [bc0]; rfl
  · rw [sum_map_ite]

/-- The running count fits a signed word. -/
theorem running_lt (q : ℕ) (hq : q < 589824) : Nat.count (Above 768) (q + 1) < 2 ^ 31 :=
  lt_of_le_of_lt (Nat.count_le (p := Above 768)) (by omega)

/-- The position of the `p`-th entry above the diagonal. -/
theorem flat (V : Vals) (p : Fin 294528) : res_main_v15 V (ix1 p) = BitVec.ofNat 32 (pos 768 p.val) := by
  unfold res_main_v15
  refine (cumsum1 (N := 294528) (Nm1 := 294527) rfl _ (fun x => Nat.count (fun i => Nat.count (Above 768) (i + 1) = x) 589824) (fun x => ?_) _ ?_ _ _ p).trans ?_
  · refine hist scatter_S294528_S589824x1_S589824_n_0_0_1 rfl rfl rfl (fun i => Nat.count (Above 768) (i + 1)) _ (fun i => ?_) (fun i => running_lt i.val i.isLt) _
      (fun i => by rw [bc0]; rfl) _ (fun i => by rw [bc0]; rfl) x
    refine (bcCol _ _ i).trans ?_
    exact wrapped _ _ _ _ (running V i) (running_lt i.val i.isLt)
  · rw [bc0]; rfl
  · rw [sum_count_eq]
    rfl

/-- No pair is missing: `nonzero`'s fill is never taken. -/
theorem no_fill (V : Vals) (p : Fin 294528) : res_main_v25 V (ix1 p) = 0#1 := by
  have h := reduce_sum (N := 589824) (extui 32 (res_main_v4 V) natLt_1_32) (fun i => if Above 768 i then 1 else 0) (fun i => mask_word V i) reducesTo_S589824_S_d0 h_S_
  rw [sum_map_ite, show Nat.count (Above 768) 589824 = 294528 from num_768] at h
  unfold res_main_v25
  rw [cmpi_at]
  have e := (bc_one bcast_S_S1 bcast_S1_S294528_0 _ (ix1 p)).trans h
  rw [e]
  show IntOp.cmpi .sge (BitVec.ofNat 32 p.val) (BitVec.ofNat 32 294528) = _
  rw [cmpi_sge_ofNat (w := 32) (by have := p.isLt; omega) (by omega), decide_eq_false (by have := p.isLt; omega)]
  rfl

/-- The row index as `unravel_index` forms it from the flat position. -/
theorem v26_eq (V : Vals) : res_main_v26 V = select (res_main_v25 V) (broadcastInDim S294528 ![] bcast_S_S294528 (constantI S_ 32 0#32))
      (pyRem bcast_S_S294528 (pyDiv bcast_S_S294528 (res_main_v15 V) (constantI S_ 32 768#32)) (constantI S_ 32 768#32)) := by
  unfold res_main_v26 res_main_call4_v4 res_main_call4_v2 res_main_call3_v2 res_main_call3_v0 res_main_call4_v0 pyRem pyDiv divGuard
  clean_types
  simp only [id]

/-- The row index of pair `p`. -/
theorem row_at (V : Vals) (p : Fin 294528) : res_main_v26 V (ix1 p) = BitVec.ofNat 32 (pos 768 p.val / 768) := by
  have hp : pos 768 p.val < 589824 := pos_lt 768 p.val (by rw [num_768]; exact p.isLt)
  have e := v26_eq V
  rw [e, select_at, no_fill, select_zero]
  refine (pyRem_ap (b := 768) bcast_S_S294528 _ _ _ (pyDiv_ap (b := 768) bcast_S_S294528 _ _ _ (flat V p) rfl (by omega) (by decide) (by decide)) rfl (by omega) (by decide) (by decide)).trans ?_
  rw [Nat.mod_eq_of_lt (by omega)]

/-- The column index as `unravel_index` forms it from the flat position. -/
theorem v27_eq (V : Vals) : res_main_v27 V = select (res_main_v25 V) (broadcastInDim S294528 ![] bcast_S_S294528 (constantI S_ 32 0#32))
      (pyRem bcast_S_S294528 (pyDiv bcast_S_S294528 (res_main_v15 V) (constantI S_ 32 1#32)) (constantI S_ 32 768#32)) := by
  unfold res_main_v27 res_main_call6_v4 res_main_call6_v2 res_main_call5_v2 res_main_call5_v0 res_main_call6_v0 pyRem pyDiv divGuard
  clean_types
  simp only [id]

/-- The column index of pair `p`. -/
theorem col_at (V : Vals) (p : Fin 294528) : res_main_v27 V (ix1 p) = BitVec.ofNat 32 (pos 768 p.val % 768) := by
  have hp : pos 768 p.val < 589824 := pos_lt 768 p.val (by rw [num_768]; exact p.isLt)
  have e := v27_eq V
  rw [e, select_at, no_fill, select_zero]
  refine (pyRem_ap (b := 768) bcast_S_S294528 _ _ _ (pyDiv_ap (b := 1) bcast_S_S294528 _ _ _ (flat V p) rfl (by omega) (by decide) (by decide)) rfl (by omega) (by decide) (by decide)).trans ?_
  rw [Nat.div_one]

end Cert.RefIndices

end

end
-- ==== Proof.RefGraph.lean ====
/-
  The reference's graph convolution: its edge list is the pairs above the diagonal followed by the self loops; its degrees, its messages and their sums are the formulas over
  rows and columns.
-/
module

public import proofs.«01_k».proof.Proof.RefIndices
public import proofs.«01_k».proof.Proof.Formulas
public import Idealize.ShloMosaic.Lib.Pipeline.Value
public import Idealize.ShloMosaic.Lib.StackMember
public import Idealize.ShloMosaic.Lib.Routing.OpsSearch

@[expose] public section

noncomputable section

namespace Cert.RefGraph

open Cert.ReferenceIdeal Cert.ReferenceIdeal.Gen Cert.ReferenceIdeal.Value Cert.Pairs Cert.IndexOps Cert.RefIndices Cert.Formulas
open Idealize.ShloMosaic Idealize.ShloMosaic.ValueIdx Idealize.ShloMosaic.StackMember Idealize.ShloMosaic.Routing Idealize.ShloMosaic.WordCmp Idealize.ShloMosaic.StableHlo

/-- The source of edge `p`: the row of pair `p`, then the nodes in order. -/
def src (p : ℕ) : Fin 768 := Fin.ofNat 768 (if p < 294528 then pos 768 p / 768 else p - 294528)

/-- Its target: the column of pair `p`, then the nodes in order. -/
def tgt (p : ℕ) : Fin 768 := Fin.ofNat 768 (if p < 294528 then pos 768 p % 768 else p - 294528)

/-- Its weight: the pair's entry of the matrix; a self loop's is 1. -/
def wt (E : Mat 768 768) (p : ℕ) : EReal := if p < 294528 then E (src p) (tgt p) else 1

/-- The source of a pair is its row. -/
theorem src_val (p : ℕ) (hp : p < 294528) : (src p).val = pos 768 p / 768 := by
  have h : pos 768 p < 589824 := pos_lt 768 p (by rw [num_768]; exact hp)
  unfold src
  rw [if_pos hp]
  exact Nat.mod_eq_of_lt (by omega)

/-- The target of a pair is its column. -/
theorem tgt_val (p : ℕ) (hp : p < 294528) : (tgt p).val = pos 768 p % 768 := by
  unfold tgt
  rw [if_pos hp]
  exact Nat.mod_eq_of_lt (Nat.mod_lt _ (by decide))

/-- The source of the self loop at `i` is `i`. -/
theorem src_loop (i : Fin 768) : src (294528 + i.val) = i := by
  unfold src
  rw [if_neg (by omega), Nat.add_sub_cancel_left]
  exact Fin.ext (Nat.mod_eq_of_lt i.isLt)

/-- The target of the self loop at `i` is `i`. -/
theorem tgt_loop (i : Fin 768) : tgt (294528 + i.val) = i := by
  unfold tgt
  rw [if_neg (by omega), Nat.add_sub_cancel_left]
  exact Fin.ext (Nat.mod_eq_of_lt i.isLt)

/-- A sum over the first `N + M` numbers, split. -/
theorem sum_split (N M : ℕ) (g : ℕ → EReal) : ∑ p : Fin (N + M), g p.val = ∑ p : Fin N, g p.val + ∑ i : Fin M, g (N + i.val) := by
  rw [Fin.sum_univ_add]
  rfl

/-- A sum over the edges is the sum over the pairs `i < j` and the sum over the self loops. -/
theorem sum_edges (E : Mat 768 768) (f : Fin 768 → Fin 768 → EReal → EReal) :
    ∑ p : Fin 295296, f (src p.val) (tgt p.val) (wt E p.val) = (∑ i, ∑ j, if i < j then f i j (E i j) else 0) + ∑ i, f i i 1 := by
  refine (sum_split 294528 768 fun p => f (src p) (tgt p) (wt E p)).trans (congrArg₂ (· + ·) ?_ ?_)
  · have h := sum_pairs 768 fun i j => f (Fin.ofNat 768 i) (Fin.ofNat 768 j) (E (Fin.ofNat 768 i) (Fin.ofNat 768 j))
    rw [num_768] at h
    refine Eq.trans (Finset.sum_congr rfl fun p _ => ?_) (h.trans ?_)
    · have e₁ : src p.val = Fin.ofNat 768 (pos 768 p.val / 768) := by unfold src; rw [if_pos p.isLt]
      have e₂ : tgt p.val = Fin.ofNat 768 (pos 768 p.val % 768) := by unfold tgt; rw [if_pos p.isLt]
      unfold wt
      rw [if_pos p.isLt, e₁, e₂]
    · refine Finset.sum_congr rfl fun i _ => Finset.sum_congr rfl fun j _ => ?_
      have ei : Fin.ofNat 768 i.val = i := Fin.ext (Nat.mod_eq_of_lt i.isLt)
      have ej : Fin.ofNat 768 j.val = j := Fin.ext (Nat.mod_eq_of_lt j.isLt)
      rw [ei, ej]
      exact if_congr Fin.lt_def.symm rfl rfl
  · refine Finset.sum_congr rfl fun i _ => ?_
    unfold wt
    rw [if_neg (by omega), src_loop, tgt_loop]

/-- The sum over the edges into node `x`. -/
theorem sum_into (E : Mat 768 768) (f : Fin 768 → Fin 768 → EReal → EReal) (x : Fin 768) :
    (∑ p : Fin 295296, if (tgt p.val).val = x.val then f (src p.val) (tgt p.val) (wt E p.val) else 0) = (∑ i, if i < x then f i x (E i x) else 0) + f x x 1 := by
  refine (sum_edges E fun s t w => if t.val = x.val then f s t w else 0).trans ?_
  congr 1
  · refine Finset.sum_congr rfl fun i _ => ?_
    rw [Finset.sum_eq_single x]
    · rw [if_pos rfl]
    · intro j _ hj
      rw [if_neg fun e => hj (Fin.ext e), ite_self]
    · exact fun h => absurd (Finset.mem_univ _) h
  · rw [Finset.sum_eq_single x]
    · rw [if_pos rfl]
    · intro j _ hj
      rw [if_neg fun e => hj (Fin.ext e)]
    · exact fun h => absurd (Finset.mem_univ _) h

/-! ## Concatenations at an entry -/

section Concat
variable {α : Type} {m n k : ℕ}

/-- Two vectors end to end, read in the first. -/
theorem concat_fst (h : Shape.Concatenates [shape1 m, shape1 n] (shape1 k) 0) (x : (shape1 m).Idx → α) (y : (shape1 n).Idx → α) (p : Fin k) (hp : p.val < m) :
    concatenate (shape1 k) 0 [⟨shape1 m, x⟩, ⟨shape1 n, y⟩] h (ix1 p) = x (ix1 ⟨p.val, hp⟩) :=
  concatenate_pair_apply_left (t := shape1 k) (s₁ := shape1 m) (s₂ := shape1 n) 0 x y h (ix1 p) rfl _ fun b => by
    match b with
    | ⟨0, _⟩ => rfl

/-- Two vectors end to end, read in the second. -/
theorem concat_snd (h : Shape.Concatenates [shape1 m, shape1 n] (shape1 k) 0) (x : (shape1 m).Idx → α) (y : (shape1 n).Idx → α) (p : Fin k) (i : Fin n)
    (hp : i.val + m = p.val) : concatenate (shape1 k) 0 [⟨shape1 m, x⟩, ⟨shape1 n, y⟩] h (ix1 p) = y (ix1 i) :=
  concatenate_pair_apply_right (t := shape1 k) (s₁ := shape1 m) (s₂ := shape1 n) 0 x y h (ix1 p) rfl rfl _
    (fun b hb => by
      match b with
      | ⟨0, _⟩ => exact absurd rfl hb)
    hp

/-- Two columns side by side, read in the first. -/
theorem cols_fst (h : Shape.Concatenates [shape2 m 1, shape2 m 1] (shape2 m 2) 1) (x y : (shape2 m 1).Idx → α) (p : Fin m) :
    concatenate (shape2 m 2) 1 [⟨shape2 m 1, x⟩, ⟨shape2 m 1, y⟩] h (ix2 p (0 : Fin 2)) = x (ix2 p (0 : Fin 1)) :=
  concatenate_pair_apply_left (t := shape2 m 2) (s₁ := shape2 m 1) (s₂ := shape2 m 1) 1 x y h _ rfl _ fun b => by
    match b with
    | ⟨0, _⟩ => rfl
    | ⟨1, _⟩ => rfl

/-- Two columns side by side, read in the second. -/
theorem cols_snd (h : Shape.Concatenates [shape2 m 1, shape2 m 1] (shape2 m 2) 1) (x y : (shape2 m 1).Idx → α) (p : Fin m) :
    concatenate (shape2 m 2) 1 [⟨shape2 m 1, x⟩, ⟨shape2 m 1, y⟩] h (ix2 p (1 : Fin 2)) = y (ix2 p (0 : Fin 1)) :=
  concatenate_pair_apply_right (t := shape2 m 2) (s₁ := shape2 m 1) (s₂ := shape2 m 1) 1 x y h _ rfl rfl _
    (fun b hb => by
      match b with
      | ⟨0, _⟩ => rfl
      | ⟨1, _⟩ => exact absurd rfl hb)
    rfl

end Concat

/-! ## The edge list -/

/-- Either the edge is a pair or it is a self loop. -/
theorem pair_or_loop (p : Fin 295296) : p.val < 294528 ∨ ∃ i : Fin 768, p.val = 294528 + i.val := by
  rcases Nat.lt_or_ge p.val 294528 with h | h
  · exact .inl h
  · exact .inr ⟨⟨p.val - 294528, by have := p.isLt; omega⟩, by show p.val = 294528 + (p.val - 294528); omega⟩

/-- The reference’s list of sources holds each edge’s source. -/
theorem src_at (V : Vals) (p : Fin 295296) : res_main_v43 V (ix1 p) = BitVec.ofNat 32 (src p.val).val := by
  unfold res_main_v43
  rcases pair_or_loop p with h | ⟨i, h⟩
  · refine (concat_fst _ _ _ p h).trans ?_
    rw [src_val _ h]
    exact row_at V _
  · refine (concat_snd _ _ _ p i (by omega)).trans ?_
    rw [h, src_loop]
    exact iota1_ap i

/-- The reference’s list of targets holds each edge’s target. -/
theorem tgt_at (V : Vals) (p : Fin 295296) : res_main_v45 V (ix1 p) = BitVec.ofNat 32 (tgt p.val).val := by
  unfold res_main_v45
  rcases pair_or_loop p with h | ⟨i, h⟩
  · refine (concat_fst _ _ _ p h).trans ?_
    rw [tgt_val _ h]
    exact col_at V _
  · refine (concat_snd _ _ _ p i (by omega)).trans ?_
    rw [h, tgt_loop]
    exact iota1_ap i

/-- A node’s number is a nonnegative signed word. -/
theorem small (x : Fin 768) : x.val < 2 ^ 31 := by have := x.isLt; omega

/-- The sources as the column of index words the gathers and scatters take. -/
abbrev srcCol (V : Vals) : IVec (shape2 295296 1) 32 :=
  broadcastInDim S295296x1 ![0] bcast_S295296_S295296x1_0 (select (cmpi .slt (res_main_v43 V) (broadcastInDim S295296 ![] bcast_S_S295296 (constantI S_ 32 0#32)))
    (addi (res_main_v43 V) (broadcastInDim S295296 ![] bcast_S_S295296 (constantI S_ 32 768#32))) (res_main_v43 V))
/-- The targets as the column of index words the gathers and scatters take. -/
abbrev tgtCol (V : Vals) : IVec (shape2 295296 1) 32 :=
  broadcastInDim S295296x1 ![0] bcast_S295296_S295296x1_0 (select (cmpi .slt (res_main_v45 V) (broadcastInDim S295296 ![] bcast_S_S295296 (constantI S_ 32 0#32)))
    (addi (res_main_v45 V) (broadcastInDim S295296 ![] bcast_S_S295296 (constantI S_ 32 768#32))) (res_main_v45 V))

/-- That column of sources holds each edge’s source. -/
theorem srcCol_at (V : Vals) (p : Fin 295296) : srcCol V (ix2 p (0 : Fin 1)) = BitVec.ofNat 32 (src p.val).val :=
  (bcCol _ _ p).trans (wrapped _ _ _ _ (src_at V p) (small _))

/-- That column of targets holds each edge’s target. -/
theorem tgtCol_at (V : Vals) (p : Fin 295296) : tgtCol V (ix2 p (0 : Fin 1)) = BitVec.ofNat 32 (tgt p.val).val :=
  (bcCol _ _ p).trans (wrapped _ _ _ _ (tgt_at V p) (small _))

/-! ## The arguments by rows and columns -/

section Args
variable (V : Vals)
def aX : FVec Ideal (shape2 768 256) .f32 := V (Proc.devRef .tc main_arg0)
def aE : FVec Ideal (shape2 768 768) .f32 := V (Proc.devRef .tc main_arg1)
def aW1 : FVec Ideal (shape2 256 256) .f32 := V (Proc.devRef .tc main_arg2)
def aB1 : FVec Ideal (shape1 256) .f32 := V (Proc.devRef .tc main_arg3)
def aWq : FVec Ideal (shape2 256 256) .f32 := V (Proc.devRef .tc main_arg4)
def aBq : FVec Ideal (shape1 256) .f32 := V (Proc.devRef .tc main_arg5)
def aWk : FVec Ideal (shape2 256 256) .f32 := V (Proc.devRef .tc main_arg6)
def aBk : FVec Ideal (shape1 256) .f32 := V (Proc.devRef .tc main_arg7)
def aWv : FVec Ideal (shape2 256 256) .f32 := V (Proc.devRef .tc main_arg8)
def aBv : FVec Ideal (shape1 256) .f32 := V (Proc.devRef .tc main_arg9)
def aWo : FVec Ideal (shape2 256 256) .f32 := V (Proc.devRef .tc main_arg10)
def aBo : FVec Ideal (shape1 256) .f32 := V (Proc.devRef .tc main_arg11)
end Args

/-- Edge `p`'s weight. -/
theorem wt_at (V : Vals) (p : Fin 295296) : res_main_v47 V (ix1 p) = wt (mat (aE V)) p.val := by
  unfold res_main_v47
  rcases pair_or_loop p with h | ⟨i, h⟩
  · refine (concat_fst _ _ _ p h).trans ?_
    unfold wt
    rw [if_pos h]
    refine gather_cell gather_S768x768_S294528x2_S294528_n_01_n_n_01_1_11 rfl rfl rfl rfl rfl (aE V) _ ⟨p.val, h⟩ (src p.val) (tgt p.val) (by decide) (by decide) ?_ ?_
    · rw [src_val _ h]
      refine (cols_fst _ _ _ _).trans ((bcCol _ _ _).trans (wrapped _ _ _ _ (row_at V ⟨p.val, h⟩) ?_))
      show pos 768 p.val / 768 < _
      rw [← src_val _ h]
      exact small _
    · rw [tgt_val _ h]
      refine (cols_snd _ _ _ _).trans ((bcCol _ _ _).trans (wrapped _ _ _ _ (col_at V ⟨p.val, h⟩) ?_))
      show pos 768 p.val % 768 < _
      rw [← tgt_val _ h]
      exact small _
  · refine (concat_snd _ _ _ p i (by omega)).trans ?_
    unfold wt
    rw [if_neg (by omega)]
    refine (bc0 _ _ _).trans ?_
    exact Ideal.ofBits_one_f32

/-- The degrees. -/
theorem deg_at (V : Vals) (x : Fin 768) : res_main_v55 V (ix1 x) = deg (mat (aE V)) x := by
  unfold res_main_v55
  refine (scatterAdd_vec scatter_S768_S295296x1_S295296_n_0_0_1 rfl rfl rfl (fun p => (tgt p).val) (tgtCol V) (tgtCol_at V) (fun p => small _) _ _ x).trans ?_
  rw [bc0]
  show Ideal.ofBits .f32 0x00000000#32 + _ = _
  rw [Ideal.ofBits_zero_f32, zero_add]
  refine Eq.trans (Finset.sum_congr rfl fun p _ => ?_) (sum_into (mat (aE V)) (fun _ _ w => w) x)
  rw [wt_at]

/-- `where(x > 0, rsqrt(where(x > 0, x, 1)), 0)` at an index. -/
theorem safe_rsqrt {t : Shape} (hb : shape0.BroadcastsInDim t (![] : Fin 0 → Fin t.rank)) (x : FVec Ideal t .f32) (i : t.Idx) :
    select (cmpf .ogt x (broadcastInDim t ![] hb (constant (F := Ideal) shape0 .f32 0x00000000#32)))
      (Host.rsqrt (select (cmpf .ogt x (broadcastInDim t ![] hb (constant (F := Ideal) shape0 .f32 0x00000000#32))) x
        (broadcastInDim t ![] hb (id (constant (F := Ideal) shape0 .f32 0x3F800000#32)))))
      (broadcastInDim t ![] hb (id (constant (F := Ideal) shape0 .f32 0x00000000#32))) i = (if 0 < x i then Ideal.rsqrt (x i) else 0 : EReal) := by
  show Scalar.select (BitVec.ofBool (decide (Ideal.ofBits .f32 0x00000000#32 < x i)))
    (Ideal.rsqrt (Scalar.select (BitVec.ofBool (decide (Ideal.ofBits .f32 0x00000000#32 < x i))) (x i) (Ideal.ofBits .f32 0x3F800000#32)))
    (Ideal.ofBits .f32 0x00000000#32) = _
  rw [select_decide, select_decide, Ideal.ofBits_zero_f32]
  by_cases h : 0 < x i
  · rw [if_pos h, if_pos h, if_pos h]
  · rw [if_neg h, if_neg h]

/-- A scaled message at an entry. -/
theorem scaled {n m : ℕ} (h₁ : (shape1 n).BroadcastsInDim (shape2 n 1) (![0] : Fin 1 → Fin (shape2 n 1).rank))
    (h₂ : (shape2 n 1).BroadcastsInDim (shape2 n m) (![0, 1] : Fin 2 → Fin (shape2 n m).rank)) (a w b : FVec Ideal (shape1 n) .f32) (g : FVec Ideal (shape2 n m) .f32)
    (p : Fin n) (y : Fin m) :
    mulf (broadcastInDim (shape2 n m) ![0, 1] h₂ (broadcastInDim (shape2 n 1) ![0] h₁ (mulf (mulf a w) b))) g (ix2 p y)
      = (a (ix1 p) * w (ix1 p) * b (ix1 p) * g (ix2 p y) : EReal) := by
  refine (mulf_apply _ _ _).trans ?_
  rw [bcRows]
  rfl

/-- `x + relu(c + b)` at an entry. -/
theorem plus_relu {n m : ℕ} (h₁ : (shape1 m).BroadcastsInDim (shape2 1 m) (![1] : Fin 1 → Fin (shape2 1 m).rank))
    (h₂ : (shape2 1 m).BroadcastsInDim (shape2 n m) (![0, 1] : Fin 2 → Fin (shape2 n m).rank)) (h₃ : shape0.BroadcastsInDim (shape2 n m) (![] : Fin 0 → Fin (shape2 n m).rank))
    (x c : FVec Ideal (shape2 n m) .f32) (b : FVec Ideal (shape1 m) .f32) (i : Fin n) (d : Fin m) :
    addf x (maximumf (addf c (broadcastInDim (shape2 n m) ![0, 1] h₂ (broadcastInDim (shape2 1 m) ![1] h₁ b)))
      (broadcastInDim (shape2 n m) ![] h₃ (constant (F := Ideal) shape0 .f32 0x00000000#32))) (ix2 i d)
      = (x (ix2 i d) + max (c (ix2 i d) + b (ix1 d)) 0 : EReal) := by
  refine (addf_apply _ _ _).trans ?_
  rw [maximumf_apply, addf_apply, bcCols, bc0]
  show _ + max _ (Ideal.ofBits .f32 0x00000000#32) = _
  rw [Ideal.ofBits_zero_f32]

/-- Their inverse roots, zero where the degree is not positive. -/
theorem dinv_at (V : Vals) (x : Fin 768) : res_main_v62 V (ix1 x) = dinvSafe (mat (aE V)) x := by
  unfold res_main_v62
  refine (safe_rsqrt _ _ _).trans ?_
  rw [deg_at]
  rfl

/-- The transformed nodes the messages carry. -/
abbrev hid (V : Vals) : FVec Ideal (shape2 768 256) .f32 := Host.dotGeneral (F := Ideal) (φ₁ := .f32) (φ₂ := .f32) dot_S768x256_S256x256_S768x256_1_0_0_1_n_n none (aX V) (aW1 V)

/-- They are the product of the nodes and the first weights. -/
theorem hid_at (V : Vals) (i : Fin 768) (d : Fin 256) : hid V (ix2 i d) = mm (mat (aX V)) (mat (aW1 V)) i d :=
  dotGeneral_plain_apply (m := 768) (k := 256) (n := 256) none (aX V) (aW1 V) i d

/-- The messages of the edges. -/
abbrev msg (V : Vals) : FVec Ideal (shape2 295296 256) .f32 :=
  mulf (broadcastInDim S295296x256 ![0, 1] bcast_S295296x1_S295296x256_0_1 (broadcastInDim S295296x1 ![0] bcast_S295296_S295296x1_0
      (mulf (mulf (Host.gather gather_S768_S295296x1_S295296_n_0_n_n_0_1_1 (res_main_v62 V) (srcCol V)) (res_main_v47 V))
        (Host.gather gather_S768_S295296x1_S295296_n_0_n_n_0_1_1 (res_main_v62 V) (tgtCol V)))))
    (Host.gather gather_S768x256_S295296x1_S295296x256_1_0_n_n_0_1_1256 (hid V) (srcCol V))

/-- A message is the edge’s normalised weight times its source’s transformed row. -/
theorem msg_at (V : Vals) (p : Fin 295296) (y : Fin 256) : msg V (ix2 p y)
    = dinvSafe (mat (aE V)) (src p.val) * wt (mat (aE V)) p.val * dinvSafe (mat (aE V)) (tgt p.val) * mm (mat (aX V)) (mat (aW1 V)) (src p.val) y := by
  have g₁ := take_ap gather_S768_S295296x1_S295296_n_0_n_n_0_1_1 rfl rfl rfl rfl (res_main_v62 V) (srcCol V) p (src p.val).isLt (small _) (srcCol_at V p)
  have g₂ := take_ap gather_S768_S295296x1_S295296_n_0_n_n_0_1_1 rfl rfl rfl rfl (res_main_v62 V) (tgtCol V) p (tgt p.val).isLt (small _) (tgtCol_at V p)
  have g₃ := gather_row gather_S768x256_S295296x1_S295296x256_1_0_n_n_0_1_1256 rfl rfl rfl rfl rfl (hid V) (srcCol V) p y (src p.val) (srcCol_at V p) (by decide)
  refine (scaled _ _ _ _ _ _ p y).trans ?_
  rw [g₁, g₂, g₃, dinv_at, dinv_at, wt_at, hid_at]

/-- The nodes after the convolution. -/
theorem x_at (V : Vals) (i : Fin 768) (d : Fin 256) :
    res_main_v102 V (ix2 i d) = nodes (mat (aX V)) (convR (mat (aE V)) (mm (mat (aX V)) (mat (aW1 V)))) (row (aB1 V)) i d := by
  have hs : Host.scatterAdd scatter_S768x256_S295296x1_S295296x256_1_0_0_1 (broadcastInDim S768x256 ![] bcast_S_S768x256 (constant S_ .f32 0x00000000#32)) (tgtCol V) (msg V)
      (ix2 i d) = convR (mat (aE V)) (mm (mat (aX V)) (mat (aW1 V))) i d := by
    refine (scatterAdd_rows scatter_S768x256_S295296x1_S295296x256_1_0_0_1 rfl rfl rfl rfl (fun p => (tgt p).val) (tgtCol V) (tgtCol_at V) (fun p => small _) _ _ i d).trans ?_
    rw [bc0]
    show Ideal.ofBits .f32 0x00000000#32 + _ = _
    rw [Ideal.ofBits_zero_f32, zero_add]
    refine Eq.trans (Finset.sum_congr rfl fun p _ => ?_)
      (sum_into (mat (aE V)) (fun s t w => dinvSafe (mat (aE V)) s * w * dinvSafe (mat (aE V)) t * mm (mat (aX V)) (mat (aW1 V)) s d) i)
    rw [msg_at]
  unfold res_main_v102
  refine (plus_relu _ _ _ (aX V) _ (aB1 V) i d).trans ?_
  exact congrArg (fun t : EReal => aX V (ix2 i d) + max (t + aB1 V (ix1 d)) 0) hs

end Cert.RefGraph

end

end
-- ==== Proof.RefAttn.lean ====
/-
  The reference's attention, entry by entry: its logits, their exponentials, their averages of the values and the output layer.
-/
module

public import proofs.«01_k».proof.Proof.Gen.ReferenceIdeal.Run
public import proofs.«01_k».proof.Proof.Entries
public import proofs.«01_k».proof.Proof.Consts
public import Idealize.ShloMosaic.Lib.Pointwise
public import Idealize.ShloMosaic.Lib.Pointwise.IndexBridge

@[expose] public section

set_option maxRecDepth 16384

noncomputable section

namespace Cert.RefAttn

open Cert.ReferenceIdeal Cert.ReferenceIdeal.Gen Cert.Formulas Cert.Entries Cert.Consts Idealize.ShloMosaic

/-- The root of an array is taken entry by entry. -/
theorem host_sqrt (v : FVec Ideal S_ .f32) (i : S_.Idx) : (Host.sqrt v i : EReal) = Ideal.sqrt (v i) := rfl

/-- The logits as the reference computes them from the nodes. -/
def logitsOf (x : FVec Ideal S768x256 .f32) (wq wk : FVec Ideal S256x256 .f32) (bq bk : FVec Ideal S256 .f32) : FVec Ideal S768x768 .f32 :=
  mulf (Host.dotGeneral dot_S768x256_S256x768_S768x768_1_0_0_1_n_n none
        (addf (Host.dotGeneral dot_S768x256_S256x256_S768x256_1_0_0_1_n_n none x wq) (broadcastInDim S768x256 ![0, 1] bcast_S1x256_S768x256_0_1 (broadcastInDim S1x256 ![1] bcast_S256_S1x256_1 bq)))
        (transpose S256x768 [1, 0] (addf (Host.dotGeneral dot_S768x256_S256x256_S768x256_1_0_0_1_n_n none x wk) (broadcastInDim S768x256 ![0, 1] bcast_S1x256_S768x256_0_1 (broadcastInDim S1x256 ![1] bcast_S256_S1x256_1 bk))) transposes_S768x256_S256x768_1_0))
      (broadcastInDim S768x768 ![] bcast_S_S768x768 (Host.divf (constant S_ .f32 0x3F800000#32) (Host.sqrt (constant S_ .f32 0x43800000#32))))

/-- The exponentials of the logits less their row's maximum. -/
def probsOf (L : FVec Ideal S768x768 .f32) : FVec Ideal S768x768 .f32 :=
  Host.exp (subf L (broadcastInDim S768x768 ![0, 1] bcast_S768x1_S768x768_0_1 (broadcastInDim S768x1 ![0] bcast_S768_S768x1_0
      (maximumf (broadcastInDim S768 ![] bcast_S_S768 (constant S_ .f32 0xFF800000#32)) (Host.reduce FloatOps.maximumf L (constant S_ .f32 0xFF800000#32) reducesTo_S768x768_S768_d1 h_S_)))))

/-- The averages of the values, through the output layer. -/
def outOf (P : FVec Ideal S768x768 .f32) (x : FVec Ideal S768x256 .f32) (wv wo : FVec Ideal S256x256 .f32) (bv bo : FVec Ideal S256 .f32) : FVec Ideal S768x256 .f32 :=
  addf (Host.dotGeneral dot_S768x256_S256x256_S768x256_1_0_0_1_n_n none (Host.dotGeneral dot_S768x768_S768x256_S768x256_1_0_0_1_n_n none (Host.divf P (broadcastInDim S768x768 ![0, 1] bcast_S768x1_S768x768_0_1 (broadcastInDim S768x1 ![0] bcast_S768_S768x1_0 (Host.reduceAdd P (constant S_ .f32 0x00000000#32) reducesTo_S768x768_S768_d1 h_S_))))
        (addf (Host.dotGeneral dot_S768x256_S256x256_S768x256_1_0_0_1_n_n none x wv) (broadcastInDim S768x256 ![0, 1] bcast_S1x256_S768x256_0_1 (broadcastInDim S1x256 ![1] bcast_S256_S1x256_1 bv)))) wo)
      (broadcastInDim S768x256 ![0, 1] bcast_S1x256_S768x256_0_1 (broadcastInDim S1x256 ![1] bcast_S256_S1x256_1 bo))

/-- The logits. -/
theorem logits_at (x : FVec Ideal S768x256 .f32) (wq wk : FVec Ideal S256x256 .f32) (bq bk : FVec Ideal S256 .f32) (i j : Fin 768) :
    (logitsOf x wq wk bq bk (ix2 i j) : EReal)
    = logitsR (lin (mat x) (mat wq) (row bq)) (lin (mat x) (mat wk) (row bk)) i j := by
  pointwise [logitsOf]
  simp only [mat_at, row_at, word_256, host_sqrt]
  simp only [logitsR, lin, mm, scale]

/-- Their exponentials. -/
theorem probs_at (L : FVec Ideal S768x768 .f32) (i j : Fin 768) :
    (probsOf L (ix2 i j) : EReal)
    = probs (mat L) i j := by
  pointwise [probsOf]
  simp only [mat_at, word_bot, fold_max]
  simp only [probs, max_bot_left]

/-- The averages of the values and the output layer. -/
theorem out_at (P : FVec Ideal S768x768 .f32) (x : FVec Ideal S768x256 .f32) (wv wo : FVec Ideal S256x256 .f32) (bv bo : FVec Ideal S256 .f32) (i : Fin 768) (d : Fin 256) :
    (outOf P x wv wo bv bo (ix2 i d) : EReal)
    = lin (avgR (mat P) (lin (mat x) (mat wv) (row bv))) (mat wo) (row bo) i d := by
  pointwise [outOf]
  simp only [mat_at, row_at]
  simp only [avgR, lin, mm]

end Cert.RefAttn
end
end
-- ==== Proof.RefValue.lean ====
/-
  The reference's result, entry by entry: the formula `outR` of its arguments.
-/
module

public import proofs.«01_k».proof.Proof.RefGraph
public import proofs.«01_k».proof.Proof.RefAttn

@[expose] public section

noncomputable section

namespace Cert.RefValue

open Cert.ReferenceIdeal Cert.ReferenceIdeal.Gen Cert.ReferenceIdeal.Value Cert.RefIndices Cert.Formulas Cert.RefGraph Idealize.ShloMosaic

/-- The nodes after the convolution, as an array of two axes. -/
def x1 (V : Vals) : FVec Ideal S768x256 .f32 := res_main_v102 V

/-- The logits, likewise. -/
def l1 (V : Vals) : FVec Ideal S768x768 .f32 := res_main_v120 V
/-- The exponentials of the logits, likewise. -/
def p1 (V : Vals) : FVec Ideal S768x768 .f32 := res_main_v127 V

/-- The nodes after the convolution are the formula’s. -/
theorem mat_x1 (V : Vals) : mat (x1 V) = nodes (mat (aX V)) (convR (mat (aE V)) (mm (mat (aX V)) (mat (aW1 V)))) (row (aB1 V)) := by
  funext i d
  exact x_at V i d

/-- The logits are the formula’s. -/
theorem mat_l1 (V : Vals) : mat (l1 V) = logitsR (lin (mat (x1 V)) (mat (aWq V)) (row (aBq V))) (lin (mat (x1 V)) (mat (aWk V)) (row (aBk V))) := by
  funext i j
  refine Eq.trans ?_ (RefAttn.logits_at (x1 V) (aWq V) (aWk V) (aBq V) (aBk V) i j)
  rw [← Entries.mat_at]
  rfl

/-- Their exponentials are the formula’s. -/
theorem mat_p1 (V : Vals) : mat (p1 V) = probs (mat (l1 V)) := by
  funext i j
  refine Eq.trans ?_ (RefAttn.probs_at (l1 V) i j)
  rw [← Entries.mat_at]
  rfl

/-- The reference's whole result. -/
theorem out_at (V : Vals) (i : Fin 768) (d : Fin 256) :
    (RefAttn.outOf (p1 V) (x1 V) (aWv V) (aWo V) (aBv V) (aBo V) (ix2 i d) : EReal) =
      outR (mat (aE V)) (mat (aX V)) (mat (aW1 V)) (row (aB1 V)) (mat (aWq V)) (row (aBq V)) (mat (aWk V)) (row (aBk V)) (mat (aWv V)) (row (aBv V)) (mat (aWo V)) (row (aBo V)) i d := by
  refine (RefAttn.out_at _ _ _ _ _ _ i d).trans ?_
  rw [mat_p1, mat_l1, mat_x1]
  rfl

end Cert.RefValue

end

end
-- ==== Proof.Equation.lean ====
/-
  The kernel's formula is the reference's where the inputs to the logits are real and the degrees positive.
-/
module

public import proofs.«01_k».proof.Proof.Formulas
public import Mathlib.Data.EReal.Operations
public import Mathlib.Data.EReal.Inv

@[expose] public section

noncomputable section

namespace Cert.Equation

open Idealize.ShloMosaic Cert.Formulas

/-- An extended real that is a real number. -/
def IsReal (x : EReal) : Prop := ∃ r : ℝ, x = r

/-- The sum of two reals is real. -/
theorem IsReal.add {x y : EReal} (hx : IsReal x) (hy : IsReal y) : IsReal (x + y) := by
  obtain ⟨r, rfl⟩ := hx
  obtain ⟨s, rfl⟩ := hy
  exact ⟨r + s, (EReal.coe_add r s).symm⟩

/-- The product of two reals is real. -/
theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- Zero is real. -/
theorem IsReal.zero : IsReal 0 := ⟨0, rfl⟩

/-- The larger of two reals is real. -/
theorem IsReal.max {x y : EReal} (hx : IsReal x) (hy : IsReal y) : IsReal (max x y) := by
  rcases max_choice x y with h | h <;> rw [h] <;> assumption

/-- A sum of reals is real. -/
theorem IsReal.sum {ι : Type} (s : Finset ι) (f : ι → EReal) (h : ∀ i ∈ s, IsReal (f i)) : IsReal (∑ i ∈ s, f i) :=
  Finset.sum_induction f IsReal (fun _ _ => IsReal.add) IsReal.zero h

/-- Between zero and plus infinity, a real number. -/
theorem IsReal.of_nonneg {x : EReal} (h0 : 0 ≤ x) (ht : x ≠ ⊤) : IsReal x :=
  ⟨x.toReal, (EReal.coe_toReal ht (fun h => by rw [h] at h0; exact absurd h0 (by simp))).symm⟩

/-- Both terms of a real sum are real. -/
theorem IsReal.of_add {x y : EReal} (h : IsReal (x + y)) : IsReal x ∧ IsReal y := by
  obtain ⟨r, hr⟩ := h
  induction x using EReal.rec <;> induction y using EReal.rec
  case coe.coe a b => exact ⟨⟨a, rfl⟩, ⟨b, rfl⟩⟩
  all_goals exfalso; revert hr; simp

/-- Every term of a real sum is real. -/
theorem IsReal.of_sum {ι : Type} (s : Finset ι) (f : ι → EReal) (h : IsReal (∑ i ∈ s, f i)) : ∀ i ∈ s, IsReal (f i) := by
  classical
  intro i hi
  rw [← Finset.add_sum_erase s f hi] at h
  exact h.of_add.1

/-- A factor between zero and plus infinity distributes over a sum. -/
theorem mul_sum {ι : Type} (s : Finset ι) (f : ι → EReal) (c : EReal) (h0 : 0 ≤ c) (ht : c ≠ ⊤) : c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- The root's reciprocal of a positive number lies between zero and plus infinity. -/
theorem rsqrt_bounds {x : EReal} (h : 0 < x) : 0 ≤ Ideal.rsqrt x ∧ Ideal.rsqrt x ≠ ⊤ := by
  induction x using EReal.rec with
  | bot => exact absurd h (by simp)
  | top => exact ⟨le_refl _, EReal.zero_ne_top⟩
  | coe r =>
    have hr : 0 < r := by exact_mod_cast h
    have e : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.2 hr.le), if_neg hr.ne']
    rw [e]
    exact ⟨by exact_mod_cast inv_nonneg.2 (Real.sqrt_nonneg r), EReal.coe_ne_top _⟩

/-- Where every degree is positive, the reference takes the same inverse root as the kernel. -/
theorem dinvSafe_eq {n : ℕ} (E : Mat n n) (h : ∀ j, 0 < deg E j) (j : Fin n) : dinvSafe E j = dinv E j := if_pos (h j)

/-- The two convolutions agree where every degree is positive. -/
theorem conv_eq {n m : ℕ} (E : Mat n n) (H : Mat n m) (h : ∀ j, 0 < deg E j) : convK E H = convR E H := by
  funext j d
  obtain ⟨h0, ht⟩ := rsqrt_bounds (h j)
  unfold convK convR
  simp only [dinvSafe_eq E h]
  have h0' : 0 ≤ dinv E j := h0
  have ht' : dinv E j ≠ ⊤ := ht
  rw [EReal.left_distrib_of_nonneg_of_ne_top h0' ht', mul_sum _ _ _ h0' ht', mul_one, mul_assoc (dinv E j) (dinv E j)]
  congr 1
  refine Finset.sum_congr rfl fun i _ => ?_
  by_cases hij : i < j
  · rw [if_pos hij, if_pos hij, mul_comm (dinv E j), mul_right_comm (dinv E i) (H i d), mul_right_comm (dinv E i * E i j) (H i d)]
  · rw [if_neg hij, if_neg hij, mul_zero, mul_zero]

/-- The convolution of real nodes is real: a node of infinite degree takes nothing, and one of finite degree has real edges only. -/
theorem conv_real {n m : ℕ} (E : Mat n n) (H : Mat n m) (h : ∀ j, 0 < deg E j) (hH : ∀ i d, IsReal (H i d)) (j : Fin n) (d : Fin m) : IsReal (convK E H j d) := by
  have hd (i : Fin n) : IsReal (dinv E i) := IsReal.of_nonneg (rsqrt_bounds (h i)).1 (rsqrt_bounds (h i)).2
  by_cases htop : deg E j = ⊤
  · have : dinv E j = 0 := by
      unfold dinv
      rw [htop]
      rfl
    unfold convK
    rw [this, zero_mul]
    exact IsReal.zero
  · have hs : IsReal (∑ i, if i < j then E i j else 0) := (IsReal.of_add (y := 1) (IsReal.of_nonneg (h j).le htop)).1
    have he := IsReal.of_sum _ _ hs
    exact (hd j).mul ((IsReal.sum _ _ fun i hi => ((hd i).mul (hH i d)).mul (he i hi)).add ((hd j).mul (hH j d)))

/-- The product of two real matrices is real. -/
theorem mm_real {n k m : ℕ} (A : Mat n k) (B : Mat k m) (hA : ∀ i l, IsReal (A i l)) (hB : ∀ l j, IsReal (B l j)) (i : Fin n) (j : Fin m) : IsReal (mm A B i j) :=
  IsReal.sum _ _ fun l _ => (hA i l).mul (hB l j)

/-- A linear layer with real weights and bias takes real rows to real rows. -/
theorem lin_real {n k m : ℕ} (A : Mat n k) (B : Mat k m) (b : Row m) (hA : ∀ i l, IsReal (A i l)) (hB : ∀ l j, IsReal (B l j)) (hb : ∀ j, IsReal (b j)) (i : Fin n) (j : Fin m) :
    IsReal (lin A B b i j) := (mm_real A B hA hB i j).add (hb j)

/-- The scale is one sixteenth. -/
theorem scale_eq : scale = ((16⁻¹ : ℝ) : EReal) := by
  have hs : Ideal.sqrt 256 = ((16 : ℝ) : EReal) := by
    show (if (256 : ℝ) < 0 then (⊥ : EReal) else ((Real.sqrt 256 : ℝ) : EReal)) = _
    rw [if_neg (by norm_num), show (256 : ℝ) = 16 ^ 2 by norm_num, Real.sqrt_sq (by norm_num)]
  unfold scale Ideal.div
  rw [hs, if_neg (by norm_num), one_mul, EReal.coe_inv]

/-- Scaling the query before the product is scaling the product. -/
theorem logits_eq {n m : ℕ} (q k : Mat n m) : logitsK q k = logitsR q k := by
  funext i j
  unfold logitsK logitsR
  have h0 : (0 : EReal) ≤ scale := by rw [scale_eq]; exact_mod_cast (by norm_num : (0 : ℝ) ≤ 16⁻¹)
  have ht : scale ≠ ⊤ := by rw [scale_eq]; exact EReal.coe_ne_top _
  rw [mul_comm (∑ d, q i d * k j d), mul_sum _ _ _ h0 ht]
  exact Finset.sum_congr rfl fun d _ => by rw [mul_comm (q i d), mul_assoc]

/-- The logits of real queries and keys are real. -/
theorem logits_real {n m : ℕ} (q k : Mat n m) (hq : ∀ i d, IsReal (q i d)) (hk : ∀ i d, IsReal (k i d)) (i j : Fin n) : IsReal (logitsK q k i j) :=
  IsReal.sum _ _ fun d _ => ((hq i d).mul ⟨_, scale_eq⟩).mul (hk j d)

/-- The exponentials of real logits are positive reals. -/
theorem probs_pos {n : ℕ} (L : Mat n n) (hL : ∀ i j, IsReal (L i j)) (i j : Fin n) : ∃ r : ℝ, 0 < r ∧ probs L i j = r := by
  obtain ⟨j₀, -, h⟩ := Finset.exists_mem_eq_sup Finset.univ ⟨j, Finset.mem_univ j⟩ (fun j => L i j)
  obtain ⟨a, ha⟩ := hL i j
  obtain ⟨b, hb⟩ := hL i j₀
  refine ⟨Real.exp (a - b), Real.exp_pos _, ?_⟩
  unfold probs
  rw [h, ha, hb, ← EReal.coe_sub]
  rfl

/-- Their sum along a row is a positive real. -/
theorem total_pos {n : ℕ} (L : Mat n n) (hL : ∀ i j, IsReal (L i j)) (i : Fin n) : ∃ r : ℝ, 0 < r ∧ ∑ j, probs L i j = r := by
  choose r hr he using probs_pos L hL i
  refine ⟨∑ j, r j, Finset.sum_pos (fun j _ => hr j) ⟨i, Finset.mem_univ i⟩, ?_⟩
  simp only [he]
  have h (s : Finset (Fin n)) : ∑ j ∈ s, (r j : EReal) = ((∑ j ∈ s, r j : ℝ) : EReal) := by
    classical
    induction s using Finset.induction_on with
    | empty => simp
    | insert a s ha ih => rw [Finset.sum_insert ha, Finset.sum_insert ha, ih, EReal.coe_add]
  exact h _

/-- Dividing after the sum is dividing before it. -/
theorem avg_eq {n m : ℕ} (L : Mat n n) (v : Mat n m) (hL : ∀ i j, IsReal (L i j)) : avgK (probs L) v = avgR (probs L) v := by
  funext i d
  obtain ⟨s, hs, he⟩ := total_pos L hL i
  have hne : (s : EReal) ≠ 0 := by exact_mod_cast hs.ne'
  have h0 : (0 : EReal) ≤ ((s⁻¹ : ℝ) : EReal) := by exact_mod_cast (inv_pos.2 hs).le
  unfold avgK avgR Ideal.div
  simp only [he, if_neg hne, ← EReal.coe_inv]
  rw [mul_comm (∑ j, probs L i j * v j d), mul_sum _ _ _ h0 (EReal.coe_ne_top _)]
  exact Finset.sum_congr rfl fun j _ => by rw [mul_comm (probs L i j) ((s⁻¹ : ℝ) : EReal), mul_assoc]

/-- The whole layer: the kernel's formula is the reference's. -/
theorem out_eq {n m : ℕ} (E : Mat n n) (X : Mat n m) (W1 : Mat m m) (b1 : Row m) (Wq : Mat m m) (bq : Row m) (Wk : Mat m m) (bk : Row m) (Wv : Mat m m) (bv : Row m) (Wo : Mat m m) (bo : Row m)
    (hE : ∀ j, 0 < deg E j) (hX : ∀ i d, IsReal (X i d)) (hW1 : ∀ i d, IsReal (W1 i d)) (hb1 : ∀ d, IsReal (b1 d)) (hWq : ∀ i d, IsReal (Wq i d)) (hbq : ∀ d, IsReal (bq d))
    (hWk : ∀ i d, IsReal (Wk i d)) (hbk : ∀ d, IsReal (bk d)) :
    outK E X W1 b1 Wq bq Wk bk Wv bv Wo bo = outR E X W1 b1 Wq bq Wk bk Wv bv Wo bo := by
  unfold outK outR
  rw [← conv_eq E _ hE]
  have hx (i : Fin n) (d : Fin m) : IsReal (nodes X (convK E (mm X W1)) b1 i d) :=
    (hX i d).add (((conv_real E _ hE (mm_real X W1 hX hW1) i d).add (hb1 d)).max IsReal.zero)
  dsimp only
  rw [← logits_eq, avg_eq _ _ (logits_real _ _ (lin_real _ _ _ hx hWq hbq) (lin_real _ _ _ hx hWk hbk))]

end Cert.Equation

end

end
-- ==== Proof.Pre.lean ====
/-
  What the precondition says: every degree is positive, and every array that reaches the logits, the edges apart, is real.
-/
module

public import proofs.«01_k».proof.Pre_inputs_real
public import proofs.«01_k».proof.Proof.Entries
public import proofs.«01_k».proof.Proof.Consts
public import proofs.«01_k».proof.Proof.Equation
public import Idealize.ShloMosaic.Lib.WordCmp
public import Idealize.ShloMosaic.Lib.Pointwise
public import Idealize.ShloMosaic.Lib.Pointwise.IndexBridge
public import Idealize.ShloMosaic.Lib.Decide

@[expose] public section

set_option maxRecDepth 16384

noncomputable section

namespace Cert.Pre

open Cert.Pre_inputs_real Cert.Formulas Cert.Entries Cert.Consts Cert.Equation Idealize.ShloMosaic

/-- The shape relations the precondition's operations take. -/
theorem facts : Cert.Pre_inputs_real.Facts where
  bcast_S768_S768x1_0 := by decide
  bcast_S768_S1x768_1 := by decide
  bcast_S768x1_S768x768_0_1 := by decide
  bcast_S1x768_S768x768_0_1 := by decide
  bcast_S_S768x768 := by decide
  reducesTo_S768x768_S768_d0 := by decide
  h_S_ := by decide
  bcast_S_S768 := by decide
  bcast_S_S768x256 := by decide
  bcast_S_S256x256 := by decide
  bcast_S_S256 := by decide

/-- An extended real whose absolute value is below plus infinity is real. -/
theorem real_of_word (x : EReal) (h : Ideal.cmp .olt (max x (-x)) ⊤ = 1#1) : IsReal x := by
  induction x using EReal.rec with
  | bot => exact absurd h (by simp [Ideal.cmp])
  | top => exact absurd h (by simp [Ideal.cmp])
  | coe r => exact ⟨r, rfl⟩

/-- The comparison of an array's absolute values with plus infinity, all ones: two axes … -/
theorem real_mat {n m : ℕ} (x : FVec Ideal ⟨2, ![n, m]⟩ .f32) (hb : (⟨0, ![]⟩ : Shape).BroadcastsInDim ⟨2, ![n, m]⟩ (![] : Fin 0 → Fin 2))
    (h : cmpf .olt (Host.absf x) (broadcastInDim ⟨2, ![n, m]⟩ ![] hb (constant ⟨0, ![]⟩ .f32 0x7F800000#32)) = fun _ => 1#1) (i : Fin n) (j : Fin m) : IsReal (mat x i j) := by
  refine real_of_word _ ?_
  have := congrFun h (ValueIdx.ix2 i j)
  rw [← word_top]
  exact this

/-- … and one. -/
theorem real_row {n : ℕ} (x : FVec Ideal ⟨1, ![n]⟩ .f32) (hb : (⟨0, ![]⟩ : Shape).BroadcastsInDim ⟨1, ![n]⟩ (![] : Fin 0 → Fin 1))
    (h : cmpf .olt (Host.absf x) (broadcastInDim ⟨1, ![n]⟩ ![] hb (constant ⟨0, ![]⟩ .f32 0x7F800000#32)) = fun _ => 1#1) (i : Fin n) : IsReal (row x i) := by
  refine real_of_word _ ?_
  have := congrFun h (ValueIdx.ix1 i)
  rw [← word_top]
  exact this

attribute [local instance] facts

/-- The precondition's degrees are the formula's. -/
theorem degree_at (X : FVec Ideal S768x256 .f32) (E : FVec Ideal S768x768 .f32) (W1 : FVec Ideal S256x256 .f32) (b1 : FVec Ideal S256 .f32) (Wq : FVec Ideal S256x256 .f32) (bq : FVec Ideal S256 .f32) (Wk : FVec Ideal S256x256 .f32) (bk : FVec Ideal S256 .f32) (Wv : FVec Ideal S256x256 .f32) (bv : FVec Ideal S256 .f32) (Wo : FVec Ideal S256x256 .f32) (bo : FVec Ideal S256 .f32) (j : Fin 768) :
    (fn X E W1 b1 Wq bq Wk bk Wv bv Wo bo).1 (ix1 j) = Ideal.cmp .ogt (deg (mat E) j) 0 := by
  pointwise [fn, fn_part1, fn_where]
  have h (x : Fin 768) : (Scalar.select (IntOp.cmpi CmpIPredicate.slt (BitVec.ofNat 32 x.val) (BitVec.ofNat 32 j.val)) (E (ix2 x j))
      (id (constant S_ FTy.f32 0#32 : FVec Ideal S_ .f32) ix0) : EReal) = if x < j then mat E x j else 0 := by
    rw [WordCmp.cmpi_slt_ofNat (w := 32) (by omega) (by omega), WordCmp.select_decide, mat_at E]
    refine congrArg (fun z => if x < j then mat E x j else z) ?_
    exact Ideal.ofBits_zero_f32
  simp only [h, deg]
  congr

/-- The precondition, read back. -/
theorem pre_real (X : FVec Ideal S768x256 .f32) (E : FVec Ideal S768x768 .f32) (W1 : FVec Ideal S256x256 .f32) (b1 : FVec Ideal S256 .f32) (Wq : FVec Ideal S256x256 .f32) (bq : FVec Ideal S256 .f32) (Wk : FVec Ideal S256x256 .f32) (bk : FVec Ideal S256 .f32) (Wv : FVec Ideal S256x256 .f32) (bv : FVec Ideal S256 .f32) (Wo : FVec Ideal S256x256 .f32) (bo : FVec Ideal S256 .f32)
    (h : (fn X E W1 b1 Wq bq Wk bk Wv bv Wo bo).1 = (fun _ => 1#1) ∧ (fn X E W1 b1 Wq bq Wk bk Wv bv Wo bo).2.1 = (fun _ => 1#1) ∧ (fn X E W1 b1 Wq bq Wk bk Wv bv Wo bo).2.2.1 = (fun _ => 1#1)
      ∧ (fn X E W1 b1 Wq bq Wk bk Wv bv Wo bo).2.2.2.1 = (fun _ => 1#1) ∧ (fn X E W1 b1 Wq bq Wk bk Wv bv Wo bo).2.2.2.2.1 = (fun _ => 1#1) ∧ (fn X E W1 b1 Wq bq Wk bk Wv bv Wo bo).2.2.2.2.2.1 = (fun _ => 1#1)
      ∧ (fn X E W1 b1 Wq bq Wk bk Wv bv Wo bo).2.2.2.2.2.2.1 = (fun _ => 1#1) ∧ (fn X E W1 b1 Wq bq Wk bk Wv bv Wo bo).2.2.2.2.2.2.2 = (fun _ => 1#1)) :
    (∀ j, 0 < deg (mat E) j) ∧ (∀ i d, IsReal (mat X i d)) ∧ (∀ i d, IsReal (mat W1 i d)) ∧ (∀ d, IsReal (row b1 d)) ∧ (∀ i d, IsReal (mat Wq i d)) ∧ (∀ d, IsReal (row bq d))
      ∧ (∀ i d, IsReal (mat Wk i d)) ∧ (∀ d, IsReal (row bk d)) := by
  obtain ⟨h0, h1, h2, h3, h4, h5, h6, h7⟩ := h
  refine ⟨fun j => ?_, real_mat X _ h1, real_mat W1 _ h2, real_row b1 _ h3, real_mat Wq _ h4, real_row bq _ h5, real_mat Wk _ h6, real_row bk _ h7⟩
  have e := (degree_at X E W1 b1 Wq bq Wk bk Wv bv Wo bo j).symm.trans (congrFun h0 (ix1 j))
  by_contra hn
  rw [Ideal.cmp] at e
  simp [hn] at e

end Cert.Pre
end

end
-- ==== Proof.Result.lean ====
/-
  The two programs' results are the same array.
-/
module

public import proofs.«01_k».proof.Proof.KernelRun
public import proofs.«01_k».proof.Proof.RefValue
public import proofs.«01_k».proof.Proof.Equation
public import proofs.«01_k».proof.Proof.Pre

@[expose] public section

noncomputable section

namespace Cert.Result

open Cert.Formulas Cert.KernelRun Cert.Equation Idealize.ShloMosaic

/-- Two arrays of two axes with the same entries are the same array. -/
theorem arr_ext {n k : ℕ} {A B : FVec Ideal ⟨2, ![n, k]⟩ .f32} (h : ∀ i d, A (ix2 i d) = B (ix2 i d)) : A = B := by
  funext y
  have e := h (y 0) (y 1)
  rwa [ix2_eta] at e

/-- Over real nodes, weights and biases before the softmax, and positive degrees, the kernel's result array is the
    reference's, wherever the reference's arguments are the kernel's. -/
theorem same (m : (ℓ : Loc Cert.KernelIdeal.nD Cert.KernelIdeal.τ Cert.KernelIdeal.sig) → Buf (Elt Ideal) ℓ) (c : Dev Cert.KernelIdeal.nD) (V : RefIndices.Vals)
    (hX : RefGraph.aX V = argX m c) (hE : RefGraph.aE V = argE m c) (hW1 : RefGraph.aW1 V = argW1 m c) (hB1 : RefGraph.aB1 V = argB1 m c)
    (hWq : RefGraph.aWq V = argWq m c) (hBq : RefGraph.aBq V = argBq m c) (hWk : RefGraph.aWk V = argWk m c) (hBk : RefGraph.aBk V = argBk m c)
    (hWv : RefGraph.aWv V = argWv m c) (hBv : RefGraph.aBv V = argBv m c) (hWo : RefGraph.aWo V = argWo m c) (hBo : RefGraph.aBo V = argBo m c)
    (h : (∀ j, 0 < deg (mat (argE m c)) j) ∧ (∀ i d, IsReal (mat (argX m c) i d)) ∧ (∀ i d, IsReal (mat (argW1 m c) i d)) ∧ (∀ d, IsReal (row (argB1 m c) d))
      ∧ (∀ i d, IsReal (mat (argWq m c) i d)) ∧ (∀ d, IsReal (row (argBq m c) d)) ∧ (∀ i d, IsReal (mat (argWk m c) i d)) ∧ (∀ d, IsReal (row (argBk m c) d))) :
    (Cert.KernelIdeal.Gen.dats m 0 c).arrAt 12 Cert.KernelIdeal.cfg0.N = RefAttn.outOf (RefValue.p1 V) (RefValue.x1 V) (RefGraph.aWv V) (RefGraph.aWo V) (RefGraph.aBv V) (RefGraph.aBo V) := by
  obtain ⟨h0, h1, h2, h3, h4, h5, h6, h7⟩ := h
  refine arr_ext (n := 768) (k := 256) fun i d => ?_
  refine (Cert.KernelRun.out_at m c i d).trans (Eq.trans ?_ (RefValue.out_at V i d).symm)
  rw [hX, hE, hW1, hB1, hWq, hBq, hWk, hBk, hWv, hBv, hWo, hBo]
  exact congrFun (congrFun (Cert.Equation.out_eq _ _ _ _ _ _ _ _ _ _ _ _ h0 h1 h2 h3 h4 h5 h6 h7) i) d

end Cert.Result

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Result
public import Idealize.ShloMosaic.Adequacy
public import Idealize.ShloMosaic.Lib.Quiescent
public import Idealize.ShloMosaic.Init

@[expose] public section

noncomputable section

namespace Cert.Proof

open Idealize.ShloMosaic Idealize.SL.Sem

/-- The printed kernel runs, keeps its arguments, and ends with every semaphore counter at zero. -/
theorem kernel : Cert.quiescent_Kernel (hKernel := Cert.Kernel.Gen.facts) := fun m g _ => Cert.Kernel.Gen.frame m g

/-- The idealized kernel runs, keeps its arguments, and ends with every semaphore counter at zero. -/
theorem kernelIdeal : Cert.quiescent_KernelIdeal (hKernelIdeal := Cert.KernelIdeal.Gen.facts) := fun m g _ => Cert.KernelIdeal.Gen.frame m g

/-- The idealized kernel does so under the precondition. -/
theorem kernelIdealPre : Cert.quiescent_KernelIdeal_pre_inputs_real (hKernelIdeal := Cert.KernelIdeal.Gen.facts) (hPre_inputs_real := Cert.Pre.facts) :=
  fun m g _ => Cert.KernelIdeal.Gen.frame m g

/-- The reference runs and keeps its arguments; it declares no semaphore, so no counter is off zero. -/
theorem referenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The reference does so under the precondition. -/
theorem referenceIdealPre : Cert.quiescent_ReferenceIdeal_pre_inputs_real (hReferenceIdeal := Cert.ReferenceIdeal.Gen.facts) (hPre_inputs_real := Cert.Pre.facts) :=
  fun m g _ => referenceIdeal m g trivial

/-- From memories that agree on the arguments, under the precondition, the idealized kernel and the reference end with
    the same result, both with their arguments kept. -/
theorem algebraic : Cert.algebraic_KernelIdeal_ReferenceIdeal_pre_inputs_real (hKernelIdeal := Cert.KernelIdeal.Gen.facts) (hReferenceIdeal := Cert.ReferenceIdeal.Gen.facts) (hPre_inputs_real := Cert.Pre.facts) := by
  intro m g m' g' hpre hagree
  refine ⟨fun c => (Cert.KernelIdeal.Gen.dats m 0 c).arrAt 12 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨a0, a1, a2, a3, a4, a5, a6, a7, a8, a9, a10, a11⟩ := hagree c
  exact (Cert.Result.same m c (StableHlo.launchContents m' c) a0 a1 a2 a3 a4 a5 a6 a7 a8 a9 a10 a11
    (Cert.Pre.pre_real _ _ _ _ _ _ _ _ _ _ _ _ (hpre c))).symm

/-- Every claim of this certificate. -/
theorem claim : Cert.Claim := ⟨Cert.Kernel.Gen.facts, Cert.KernelIdeal.Gen.facts, Cert.ReferenceIdeal.Gen.facts, Cert.Pre.facts,
  kernel, kernelIdeal, kernelIdealPre, referenceIdeal, referenceIdealPre, trivial, algebraic⟩

end Cert.Proof

end
